-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17_5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x32x1024 : Shape := ⟨3, ![512, 32, 1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩
abbrev S1x4096 : Shape := ⟨2, ![1, 4096]⟩
abbrev S16x32x1024 : Shape := ⟨3, ![16, 32, 1024]⟩
abbrev S32x1024 : Shape := ⟨2, ![32, 1024]⟩
abbrev S512x4096 : Shape := ⟨2, ![512, 4096]⟩
abbrev S512x1024 : Shape := ⟨2, ![512, 1024]⟩
abbrev S2x512x4096 : Shape := ⟨3, ![2, 512, 4096]⟩
abbrev S32x4096 : Shape := ⟨2, ![32, 4096]⟩
abbrev S1x32x4096 : Shape := ⟨3, ![1, 32, 4096]⟩
abbrev S1x32x1024 : Shape := ⟨3, ![1, 32, 1024]⟩
abbrev S1x512x1024 : Shape := ⟨3, ![1, 512, 1024]⟩

abbrev nBuf : Space → Nat
  | .hbm => 21
  | .vmem => 17
  | .smem => 0
  | _ => 0

abbrev bufTy : (tb : Table) → Fin (tcTables nBuf tb) → BufTy
  | .hbm, ⟨0, _⟩ => ⟨S512x32x1024, .f32⟩
  | .hbm, ⟨1, _⟩ => ⟨S4096x1024, .f32⟩
  | .hbm, ⟨2, _⟩ => ⟨S4096x1024, .f32⟩
  | .hbm, ⟨3, _⟩ => ⟨S4096, .f32⟩
  | .hbm, ⟨4, _⟩ => ⟨S4096x1024, .f32⟩
  | .hbm, ⟨5, _⟩ => ⟨S4096x1024, .f32⟩
  | .hbm, ⟨6, _⟩ => ⟨S4096, .f32⟩
  | .hbm, ⟨7, _⟩ => ⟨S1024x4096, .f32⟩
  | .hbm, ⟨8, _⟩ => ⟨S1024x4096, .bf16⟩
  | .hbm, ⟨9, _⟩ => ⟨S1024x4096, .f32⟩
  | .hbm, ⟨10, _⟩ => ⟨S_, .f32⟩
  | .hbm, ⟨11, _⟩ => ⟨S1024x4096, .f32⟩
  | .hbm, ⟨12, _⟩ => ⟨S1024x4096, .f32⟩
  | .hbm, ⟨13, _⟩ => ⟨S1024x4096, .fp8e4m3⟩
  | .hbm, ⟨14, _⟩ => ⟨S1024x4096, .f32⟩
  | .hbm, ⟨15, _⟩ => ⟨S1024x4096, .bf16⟩
  | .hbm, ⟨16, _⟩ => ⟨S1024x4096, .f32⟩
  | .hbm, ⟨17, _⟩ => ⟨S1024x4096, .bf16⟩
  | .hbm, ⟨18, _⟩ => ⟨S1x4096, .f32⟩
  | .hbm, ⟨19, _⟩ => ⟨S1x4096, .f32⟩
  | .hbm, ⟨20, _⟩ => ⟨S512x32x1024, .f32⟩
  | .local _ .vmem, ⟨0, _⟩ => ⟨S16x32x1024, .f32⟩
  | .local _ .vmem, ⟨1, _⟩ => ⟨S16x32x1024, .f32⟩
  | .local _ .vmem, ⟨2, _⟩ => ⟨S1024x4096, .bf16⟩
  | .local _ .vmem, ⟨3, _⟩ => ⟨S1024x4096, .fp8e4m3⟩
  | .local _ .vmem, ⟨4, _⟩ => ⟨S1024x4096, .bf16⟩
  | .local _ .vmem, ⟨5, _⟩ => ⟨S1024x4096, .bf16⟩
  | .local _ .vmem, ⟨6, _⟩ => ⟨S1x4096, .f32⟩
  | .local _ .vmem, ⟨7, _⟩ => ⟨S1x4096, .f32⟩
  | .local _ .vmem, ⟨8, _⟩ => ⟨S16x32x1024, .f32⟩
  | .local _ .vmem, ⟨9, _⟩ => ⟨S16x32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S512x4096, .f32⟩
  | .local _ .vmem, ⟨15, _⟩ => ⟨S512x1024, .bf16⟩
  | .local _ .vmem, ⟨16, _⟩ => ⟨S2x512x4096, .bf16⟩
  | _, _ => ⟨S512x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![33], ![false]⟩

def k0_off1 (i : grid0.Coords) : Fin 3 → Nat :=
  let arg0 : BitVec 32 := BitVec.ofNat 32 (i 0).val
  let c1_i32_15 : BitVec 32 := 1#32
  let v29 : BitVec 32 := Scalar.subi arg0 c1_i32_15
  let c2_i32_16 : BitVec 32 := 2#32
  let c0_i32_17 : BitVec 32 := 0#32
  let v30 : BitVec 1 := Scalar.cmpi .eq c2_i32_16 c0_i32_17
  let c1_i32_18 : BitVec 32 := 1#32
  let v31 : BitVec 32 := Scalar.select v30 c1_i32_18 c2_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v70 : Index := Scalar.indexCast v39
  let c0_38 : Index := 0#32
  let c0_39 : Index := 0#32
  ![v70.toNat, 0, 0]
def k0_off2 (i : grid0.Coords) : Fin 3 → Nat :=
  let arg0 : BitVec 32 := BitVec.ofNat 32 (i 0).val
  let c1_i32_15 : BitVec 32 := 1#32
  let v29 : BitVec 32 := Scalar.subi arg0 c1_i32_15
  let c2_i32_16 : BitVec 32 := 2#32
  let c0_i32_17 : BitVec 32 := 0#32
  let v30 : BitVec 1 := Scalar.cmpi .eq c2_i32_16 c0_i32_17
  let c1_i32_18 : BitVec 32 := 1#32
  let v31 : BitVec 32 := Scalar.select v30 c1_i32_18 c2_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v130 : Index := Scalar.indexCast v39
  let c32_69 : Index := 32#32
  let c0_70 : Index := 0#32
  ![v130.toNat, 32, 0]
def k0_off3 (i : grid0.Coords) : Fin 3 → Nat :=
  let arg0 : BitVec 32 := BitVec.ofNat 32 (i 0).val
  let c1_i32_15 : BitVec 32 := 1#32
  let v29 : BitVec 32 := Scalar.subi arg0 c1_i32_15
  let c2_i32_16 : BitVec 32 := 2#32
  let c0_i32_17 : BitVec 32 := 0#32
  let v30 : BitVec 1 := Scalar.cmpi .eq c2_i32_16 c0_i32_17
  let c1_i32_18 : BitVec 32 := 1#32
  let v31 : BitVec 32 := Scalar.select v30 c1_i32_18 c2_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v190 : Index := Scalar.indexCast v39
  let c64_99 : Index := 64#32
  let c0_100 : Index := 0#32
  ![v190.toNat, 64, 0]
def k0_off4 (i : grid0.Coords) : Fin 3 → Nat :=
  let arg0 : BitVec 32 := BitVec.ofNat 32 (i 0).val
  let c1_i32_15 : BitVec 32 := 1#32
  let v29 : BitVec 32 := Scalar.subi arg0 c1_i32_15
  let c2_i32_16 : BitVec 32 := 2#32
  let c0_i32_17 : BitVec 32 := 0#32
  let v30 : BitVec 1 := Scalar.cmpi .eq c2_i32_16 c0_i32_17
  let c1_i32_18 : BitVec 32 := 1#32
  let v31 : BitVec 32 := Scalar.select v30 c1_i32_18 c2_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v250 : Index := Scalar.indexCast v39
  let c96_129 : Index := 96#32
  let c0_130 : Index := 0#32
  ![v250.toNat, 96, 0]
def k0_off5 (i : grid0.Coords) : Fin 3 → Nat :=
  let arg0 : BitVec 32 := BitVec.ofNat 32 (i 0).val
  let c1_i32_15 : BitVec 32 := 1#32
  let v29 : BitVec 32 := Scalar.subi arg0 c1_i32_15
  let c2_i32_16 : BitVec 32 := 2#32
  let c0_i32_17 : BitVec 32 := 0#32
  let v30 : BitVec 1 := Scalar.cmpi .eq c2_i32_16 c0_i32_17
  let c1_i32_18 : BitVec 32 := 1#32
  let v31 : BitVec 32 := Scalar.select v30 c1_i32_18 c2_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v310 : Index := Scalar.indexCast v39
  let c128_159 : Index := 128#32
  let c0_160 : Index := 0#32
  ![v310.toNat, 128, 0]
def k0_off6 (i : grid0.Coords) : Fin 3 → Nat :=
  let arg0 : BitVec 32 := BitVec.ofNat 32 (i 0).val
  let c1_i32_15 : BitVec 32 := 1#32
  let v29 : BitVec 32 := Scalar.subi arg0 c1_i32_15
  let c2_i32_16 : BitVec 32 := 2#32
  let c0_i32_17 : BitVec 32 := 0#32
  let v30 : BitVec 1 := Scalar.cmpi .eq c2_i32_16 c0_i32_17
  let c1_i32_18 : BitVec 32 := 1#32
  let v31 : BitVec 32 := Scalar.select v30 c1_i32_18 c2_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v370 : Index := Scalar.indexCast v39
  let c160_189 : Index := 160#32
  let c0_190 : Index := 0#32
  ![v370.toNat, 160, 0]
def k0_off7 (i : grid0.Coords) : Fin 3 → Nat :=
  let arg0 : BitVec 32 := BitVec.ofNat 32 (i 0).val
  let c1_i32_15 : BitVec 32 := 1#32
  let v29 : BitVec 32 := Scalar.subi arg0 c1_i32_15
  let c2_i32_16 : BitVec 32 := 2#32
  let c0_i32_17 : BitVec 32 := 0#32
  let v30 : BitVec 1 := Scalar.cmpi .eq c2_i32_16 c0_i32_17
  let c1_i32_18 : BitVec 32 := 1#32
  let v31 : BitVec 32 := Scalar.select v30 c1_i32_18 c2_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v430 : Index := Scalar.indexCast v39
  let c192_219 : Index := 192#32
  let c0_220 : Index := 0#32
  ![v430.toNat, 192, 0]
def k0_off8 (i : grid0.Coords) : Fin 3 → Nat :=
  let arg0 : BitVec 32 := BitVec.ofNat 32 (i 0).val
  let c1_i32_15 : BitVec 32 := 1#32
  let v29 : BitVec 32 := Scalar.subi arg0 c1_i32_15
  let c2_i32_16 : BitVec 32 := 2#32
  let c0_i32_17 : BitVec 32 := 0#32
  let v30 : BitVec 1 := Scalar.cmpi .eq c2_i32_16 c0_i32_17
  let c1_i32_18 : BitVec 32 := 1#32
  let v31 : BitVec 32 := Scalar.select v30 c1_i32_18 c2_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v490 : Index := Scalar.indexCast v39
  let c224_249 : Index := 224#32
  let c0_250 : Index := 0#32
  ![v490.toNat, 224, 0]
def k0_off9 (i : grid0.Coords) : Fin 3 → Nat :=
  let arg0 : BitVec 32 := BitVec.ofNat 32 (i 0).val
  let c1_i32_15 : BitVec 32 := 1#32
  let v29 : BitVec 32 := Scalar.subi arg0 c1_i32_15
  let c2_i32_16 : BitVec 32 := 2#32
  let c0_i32_17 : BitVec 32 := 0#32
  let v30 : BitVec 1 := Scalar.cmpi .eq c2_i32_16 c0_i32_17
  let c1_i32_18 : BitVec 32 := 1#32
  let v31 : BitVec 32 := Scalar.select v30 c1_i32_18 c2_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v550 : Index := Scalar.indexCast v39
  let c256_279 : Index := 256#32
  let c0_280 : Index := 0#32
  ![v550.toNat, 256, 0]
def k0_off10 (i : grid0.Coords) : Fin 3 → Nat :=
  let arg0 : BitVec 32 := BitVec.ofNat 32 (i 0).val
  let c1_i32_15 : BitVec 32 := 1#32
  let v29 : BitVec 32 := Scalar.subi arg0 c1_i32_15
  let c2_i32_16 : BitVec 32 := 2#32
  let c0_i32_17 : BitVec 32 := 0#32
  let v30 : BitVec 1 := Scalar.cmpi .eq c2_i32_16 c0_i32_17
  let c1_i32_18 : BitVec 32 := 1#32
  let v31 : BitVec 32 := Scalar.select v30 c1_i32_18 c2_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v610 : Index := Scalar.indexCast v39
  let c288_309 : Index := 288#32
  let c0_310 : Index := 0#32
  ![v610.toNat, 288, 0]
def k0_off11 (i : grid0.Coords) : Fin 3 → Nat :=
  let arg0 : BitVec 32 := BitVec.ofNat 32 (i 0).val
  let c1_i32_15 : BitVec 32 := 1#32
  let v29 : BitVec 32 := Scalar.subi arg0 c1_i32_15
  let c2_i32_16 : BitVec 32 := 2#32
  let c0_i32_17 : BitVec 32 := 0#32
  let v30 : BitVec 1 := Scalar.cmpi .eq c2_i32_16 c0_i32_17
  let c1_i32_18 : BitVec 32 := 1#32
  let v31 : BitVec 32 := Scalar.select v30 c1_i32_18 c2_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v670 : Index := Scalar.indexCast v39
  let c320_339 : Index := 320#32
  let c0_340 : Index := 0#32
  ![v670.toNat, 320, 0]
def k0_off12 (i : grid0.Coords) : Fin 3 → Nat :=
  let arg0 : BitVec 32 := BitVec.ofNat 32 (i 0).val
  let c1_i32_15 : BitVec 32 := 1#32
  let v29 : BitVec 32 := Scalar.subi arg0 c1_i32_15
  let c2_i32_16 : BitVec 32 := 2#32
  let c0_i32_17 : BitVec 32 := 0#32
  let v30 : BitVec 1 := Scalar.cmpi .eq c2_i32_16 c0_i32_17
  let c1_i32_18 : BitVec 32 := 1#32
  let v31 : BitVec 32 := Scalar.select v30 c1_i32_18 c2_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v730 : Index := Scalar.indexCast v39
  let c352_369 : Index := 352#32
  let c0_370 : Index := 0#32
  ![v730.toNat, 352, 0]
def k0_off13 (i : grid0.Coords) : Fin 3 → Nat :=
  let arg0 : BitVec 32 := BitVec.ofNat 32 (i 0).val
  let c1_i32_15 : BitVec 32 := 1#32
  let v29 : BitVec 32 := Scalar.subi arg0 c1_i32_15
  let c2_i32_16 : BitVec 32 := 2#32
  let c0_i32_17 : BitVec 32 := 0#32
  let v30 : BitVec 1 := Scalar.cmpi .eq c2_i32_16 c0_i32_17
  let c1_i32_18 : BitVec 32 := 1#32
  let v31 : BitVec 32 := Scalar.select v30 c1_i32_18 c2_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v790 : Index := Scalar.indexCast v39
  let c384_399 : Index := 384#32
  let c0_400 : Index := 0#32
  ![v790.toNat, 384, 0]
def k0_off14 (i : grid0.Coords) : Fin 3 → Nat :=
  let arg0 : BitVec 32 := BitVec.ofNat 32 (i 0).val
  let c1_i32_15 : BitVec 32 := 1#32
  let v29 : BitVec 32 := Scalar.subi arg0 c1_i32_15
  let c2_i32_16 : BitVec 32 := 2#32
  let c0_i32_17 : BitVec 32 := 0#32
  let v30 : BitVec 1 := Scalar.cmpi .eq c2_i32_16 c0_i32_17
  let c1_i32_18 : BitVec 32 := 1#32
  let v31 : BitVec 32 := Scalar.select v30 c1_i32_18 c2_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v850 : Index := Scalar.indexCast v39
  let c416_429 : Index := 416#32
  let c0_430 : Index := 0#32
  ![v850.toNat, 416, 0]
def k0_off15 (i : grid0.Coords) : Fin 3 → Nat :=
  let arg0 : BitVec 32 := BitVec.ofNat 32 (i 0).val
  let c1_i32_15 : BitVec 32 := 1#32
  let v29 : BitVec 32 := Scalar.subi arg0 c1_i32_15
  let c2_i32_16 : BitVec 32 := 2#32
  let c0_i32_17 : BitVec 32 := 0#32
  let v30 : BitVec 1 := Scalar.cmpi .eq c2_i32_16 c0_i32_17
  let c1_i32_18 : BitVec 32 := 1#32
  let v31 : BitVec 32 := Scalar.select v30 c1_i32_18 c2_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v910 : Index := Scalar.indexCast v39
  let c448_459 : Index := 448#32
  let c0_460 : Index := 0#32
  ![v910.toNat, 448, 0]
def k0_off16 (i : grid0.Coords) : Fin 3 → Nat :=
  let arg0 : BitVec 32 := BitVec.ofNat 32 (i 0).val
  let c1_i32_15 : BitVec 32 := 1#32
  let v29 : BitVec 32 := Scalar.subi arg0 c1_i32_15
  let c2_i32_16 : BitVec 32 := 2#32
  let c0_i32_17 : BitVec 32 := 0#32
  let v30 : BitVec 1 := Scalar.cmpi .eq c2_i32_16 c0_i32_17
  let c1_i32_18 : BitVec 32 := 1#32
  let v31 : BitVec 32 := Scalar.select v30 c1_i32_18 c2_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v970 : Index := Scalar.indexCast v39
  let c480_489 : Index := 480#32
  let c0_490 : Index := 0#32
  ![v970.toNat, 480, 0]
def k0_off17 (i : grid0.Coords) : Fin 3 → Nat :=
  let arg0 : BitVec 32 := BitVec.ofNat 32 (i 0).val
  let c2_i32 : BitVec 32 := 2#32
  let c0_i32_10 : BitVec 32 := 0#32
  let v19 : BitVec 1 := Scalar.cmpi .eq c2_i32 c0_i32_10
  let c1_i32_11 : BitVec 32 := 1#32
  let v20 : BitVec 32 := Scalar.select v19 c1_i32_11 c2_i32
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v1010 : Index := Scalar.indexCast v28
  let c0_511 : Index := 0#32
  let c0_512 : Index := 0#32
  ![v1010.toNat, 0, 0]
def k0_off18 (i : grid0.Coords) : Fin 3 → Nat :=
  let arg0 : BitVec 32 := BitVec.ofNat 32 (i 0).val
  let c2_i32 : BitVec 32 := 2#32
  let c0_i32_10 : BitVec 32 := 0#32
  let v19 : BitVec 1 := Scalar.cmpi .eq c2_i32 c0_i32_10
  let c1_i32_11 : BitVec 32 := 1#32
  let v20 : BitVec 32 := Scalar.select v19 c1_i32_11 c2_i32
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v1016 : Index := Scalar.indexCast v28
  let c0_513 : Index := 0#32
  let c1024 : Index := 1024#32
  ![v1016.toNat, 0, 1024]
def k0_off19 (i : grid0.Coords) : Fin 3 → Nat :=
  let arg0 : BitVec 32 := BitVec.ofNat 32 (i 0).val
  let c2_i32 : BitVec 32 := 2#32
  let c0_i32_10 : BitVec 32 := 0#32
  let v19 : BitVec 1 := Scalar.cmpi .eq c2_i32 c0_i32_10
  let c1_i32_11 : BitVec 32 := 1#32
  let v20 : BitVec 32 := Scalar.select v19 c1_i32_11 c2_i32
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v1022 : Index := Scalar.indexCast v28
  let c0_514 : Index := 0#32
  let c2048 : Index := 2048#32
  ![v1022.toNat, 0, 2048]
def k0_off20 (i : grid0.Coords) : Fin 3 → Nat :=
  let arg0 : BitVec 32 := BitVec.ofNat 32 (i 0).val
  let c2_i32 : BitVec 32 := 2#32
  let c0_i32_10 : BitVec 32 := 0#32
  let v19 : BitVec 1 := Scalar.cmpi .eq c2_i32 c0_i32_10
  let c1_i32_11 : BitVec 32 := 1#32
  let v20 : BitVec 32 := Scalar.select v19 c1_i32_11 c2_i32
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v1028 : Index := Scalar.indexCast v28
  let c0_515 : Index := 0#32
  let c3072 : Index := 3072#32
  ![v1028.toNat, 0, 3072]
def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S16x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S512x32x1024 : Shape := ⟨3, ![512, 32, 1024]⟩
abbrev S4096x1024 : Shape := ⟨2, ![4096, 1024]⟩
abbrev S4096 : Shape := ⟨1, ![4096]⟩
abbrev S512x32x4096 : Shape := ⟨3, ![512, 32, 4096]⟩
abbrev S1x1x4096 : Shape := ⟨3, ![1, 1, 4096]⟩
abbrev S1024x4096 : Shape := ⟨2, ![1024, 4096]⟩
abbrev S_ : Shape := ⟨0, ![]⟩
abbrev S32x1024 : Shape := ⟨2, ![32, 1024]⟩
abbrev S1x32x4096 : Shape := ⟨3, ![1, 32, 4096]⟩
abbrev S32x4096 : Shape := ⟨2, ![32, 4096]⟩
abbrev S1x32x1024 : Shape := ⟨3, ![1, 32, 1024]⟩

abbrev nBuf : Space → Nat
  | .hbm => 119
  | .vmem => 0
  | .smem => 0
  | _ => 0

abbrev bufTy : (tb : Table) → Fin (tcTables nBuf tb) → BufTy
  | .hbm, ⟨0, _⟩ => ⟨S512x32x1024, .f32⟩
  | .hbm, ⟨1, _⟩ => ⟨S4096x1024, .f32⟩
  | .hbm, ⟨2, _⟩ => ⟨S4096x1024, .f32⟩
  | .hbm, ⟨3, _⟩ => ⟨S4096, .f32⟩
  | .hbm, ⟨4, _⟩ => ⟨S4096x1024, .f32⟩
  | .hbm, ⟨5, _⟩ => ⟨S4096x1024, .f32⟩
  | .hbm, ⟨6, _⟩ => ⟨S4096, .f32⟩
  | .hbm, ⟨7, _⟩ => ⟨S512x32x4096, .f32⟩
  | .hbm, ⟨8, _⟩ => ⟨S1x1x4096, .f32⟩
  | .hbm, ⟨9, _⟩ => ⟨S512x32x4096, .f32⟩
  | .hbm, ⟨10, _⟩ => ⟨S512x32x4096, .f32⟩
  | .hbm, ⟨11, _⟩ => ⟨S1024x4096, .f32⟩
  | .hbm, ⟨12, _⟩ => ⟨S_, .f32⟩
  | .hbm, ⟨13, _⟩ => ⟨S32x1024, .f32⟩
  | .hbm, ⟨14, _⟩ => ⟨S_, .f32⟩
  | .hbm, ⟨15, _⟩ => ⟨S32x1024, .f32⟩
  | .hbm, ⟨16, _⟩ => ⟨S_, .f32⟩
  | .hbm, ⟨17, _⟩ => ⟨S512x32x1024, .f32⟩
  | .hbm, ⟨18, _⟩ => ⟨S_, .i32⟩
  | .hbm, ⟨19, _⟩ => ⟨S512x32x4096, .f32⟩
  | .hbm, ⟨20, _⟩ => ⟨S1024x4096, .f32⟩
  | .hbm, ⟨21, _⟩ => ⟨S_, .i32⟩
  | .hbm, ⟨22, _⟩ => ⟨S32x1024, .f32⟩
  | .hbm, ⟨23, _⟩ => ⟨S32x1024, .f32⟩
  | .hbm, ⟨24, _⟩ => ⟨S512x32x1024, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S1x32x4096, .f32⟩
  | .hbm, ⟨30, _⟩ => ⟨S32x4096, .f32⟩
  | .hbm, ⟨31, _⟩ => ⟨S32x4096, .f32⟩
  | .hbm, ⟨32, _⟩ => ⟨S32x4096, .f32⟩
  | .hbm, ⟨33, _⟩ => ⟨S32x4096, .f32⟩
  | .hbm, ⟨34, _⟩ => ⟨S32x4096, .f32⟩
  | .hbm, ⟨35, _⟩ => ⟨S_, .f32⟩
  | .hbm, ⟨36, _⟩ => ⟨S32x4096, .f32⟩
  | .hbm, ⟨37, _⟩ => ⟨S32x4096, .f32⟩
  | .hbm, ⟨38, _⟩ => ⟨S_, .f32⟩
  | .hbm, ⟨39, _⟩ => ⟨S32x4096, .f32⟩
  | .hbm, ⟨40, _⟩ => ⟨S32x4096, .f32⟩
  | .hbm, ⟨41, _⟩ => ⟨S32x1024, .f32⟩
  | .hbm, ⟨42, _⟩ => ⟨S32x1024, .f32⟩
  | .hbm, ⟨43, _⟩ => ⟨S32x1024, .f32⟩
  | .hbm, ⟨44, _⟩ => ⟨S32x1024, .f32⟩
  | .hbm, ⟨45, _⟩ => ⟨S32x1024, .f32⟩
  | .hbm, ⟨46, _⟩ => ⟨S32x1024, .f32⟩
  | .hbm, ⟨47, _⟩ => ⟨S32x1024, .f32⟩
  | .hbm, ⟨48, _⟩ => ⟨S32x1024, .f32⟩
  | .hbm, ⟨49, _⟩ => ⟨S32x1024, .f32⟩
  | .hbm, ⟨50, _⟩ => ⟨S_, .f32⟩
  | .hbm, ⟨51, _⟩ => ⟨S32x1024, .f32⟩
  | .hbm, ⟨52, _⟩ => ⟨S32x1024, .f32⟩
  | .hbm, ⟨53, _⟩ => ⟨S_, .f32⟩
  | .hbm, ⟨54, _⟩ => ⟨S32x1024, .f32⟩
  | .hbm, ⟨55, _⟩ => ⟨S32x1024, .f32⟩
  | .hbm, ⟨56, _⟩ => ⟨S32x1024, .f32⟩
  | .hbm, ⟨57, _⟩ => ⟨S1x32x1024, .f32⟩
  | .hbm, ⟨58, _⟩ => ⟨S_, .i32⟩
  | .hbm, ⟨59, _⟩ => ⟨S_, .i32⟩
  | .hbm, ⟨60, _⟩ => ⟨S512x32x1024, .f32⟩
  | .hbm, ⟨61, _⟩ => ⟨S_, .i32⟩
  | .hbm, ⟨62, _⟩ => ⟨S_, .i32⟩
  | .hbm, ⟨63, _⟩ => ⟨S512x32x4096, .f32⟩
  | .hbm, ⟨64, _⟩ => ⟨S1x1x4096, .f32⟩
  | .hbm, ⟨65, _⟩ => ⟨S512x32x4096, .f32⟩
  | .hbm, ⟨66, _⟩ => ⟨S512x32x4096, .f32⟩
  | .hbm, ⟨67, _⟩ => ⟨S1024x4096, .f32⟩
  | .hbm, ⟨68, _⟩ => ⟨S_, .f32⟩
  | .hbm, ⟨69, _⟩ => ⟨S32x1024, .f32⟩
  | .hbm, ⟨70, _⟩ => ⟨S_, .f32⟩
  | .hbm, ⟨71, _⟩ => ⟨S32x1024, .f32⟩
  | .hbm, ⟨72, _⟩ => ⟨S_, .f32⟩
  | .hbm, ⟨73, _⟩ => ⟨S512x32x1024, .f32⟩
  | .hbm, ⟨74, _⟩ => ⟨S_, .i32⟩
  | .hbm, ⟨75, _⟩ => ⟨S512x32x4096, .f32⟩
  | .hbm, ⟨76, _⟩ => ⟨S1024x4096, .f32⟩
  | .hbm, ⟨77, _⟩ => ⟨S_, .i32⟩
  | .hbm, ⟨78, _⟩ => ⟨S32x1024, .f32⟩
  | .hbm, ⟨79, _⟩ => ⟨S32x1024, .f32⟩
  | .hbm, ⟨80, _⟩ => ⟨S512x32x1024, .f32⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S1x32x4096, .f32⟩
  | .hbm, ⟨86, _⟩ => ⟨S32x4096, .f32⟩
  | .hbm, ⟨87, _⟩ => ⟨S32x4096, .f32⟩
  | .hbm, ⟨88, _⟩ => ⟨S32x4096, .f32⟩
  | .hbm, ⟨89, _⟩ => ⟨S32x4096, .f32⟩
  | .hbm, ⟨90, _⟩ => ⟨S32x4096, .f32⟩
  | .hbm, ⟨91, _⟩ => ⟨S_, .f32⟩
  | .hbm, ⟨92, _⟩ => ⟨S32x4096, .f32⟩
  | .hbm, ⟨93, _⟩ => ⟨S32x4096, .f32⟩
  | .hbm, ⟨94, _⟩ => ⟨S_, .f32⟩
  | .hbm, ⟨95, _⟩ => ⟨S32x4096, .f32⟩
  | .hbm, ⟨96, _⟩ => ⟨S32x4096, .f32⟩
  | .hbm, ⟨97, _⟩ => ⟨S32x1024, .f32⟩
  | .hbm, ⟨98, _⟩ => ⟨S32x1024, .f32⟩
  | .hbm, ⟨99, _⟩ => ⟨S32x1024, .f32⟩
  | .hbm, ⟨100, _⟩ => ⟨S32x1024, .f32⟩
  | .hbm, ⟨101, _⟩ => ⟨S32x1024, .f32⟩
  | .hbm, ⟨102, _⟩ => ⟨S32x1024, .f32⟩
  | .hbm, ⟨103, _⟩ => ⟨S32x1024, .f32⟩
  | .hbm, ⟨104, _⟩ => ⟨S32x1024, .f32⟩
  | .hbm, ⟨105, _⟩ => ⟨S32x1024, .f32⟩
  | .hbm, ⟨106, _⟩ => ⟨S_, .f32⟩
  | .hbm, ⟨107, _⟩ => ⟨S32x1024, .f32⟩
  | .hbm, ⟨108, _⟩ => ⟨S32x1024, .f32⟩
  | .hbm, ⟨109, _⟩ => ⟨S_, .f32⟩
  | .hbm, ⟨110, _⟩ => ⟨S32x1024, .f32⟩
  | .hbm, ⟨111, _⟩ => ⟨S32x1024, .f32⟩
  | .hbm, ⟨112, _⟩ => ⟨S32x1024, .f32⟩
  | .hbm, ⟨113, _⟩ => ⟨S1x32x1024, .f32⟩
  | .hbm, ⟨114, _⟩ => ⟨S_, .i32⟩
  | .hbm, ⟨115, _⟩ => ⟨S_, .i32⟩
  | .hbm, ⟨116, _⟩ => ⟨S512x32x1024, .f32⟩
  | .hbm, ⟨117, _⟩ => ⟨S_, .i32⟩
  | .hbm, ⟨118, _⟩ => ⟨S_, .i32⟩
  | _, _ => ⟨S512x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_c : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev main_while0c_c_11 : Ref sig .tc := ⟨.hbm, 25, rfl⟩
abbrev main_while0c_v18 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_v0 : Ref sig .tc := ⟨.hbm, 29, rfl⟩
abbrev main_while0b_v18 : Ref sig .tc := ⟨.hbm, 30, rfl⟩
abbrev main_while0b_v19 : Ref sig .tc := ⟨.hbm, 31, rfl⟩
abbrev main_while0b_v20 : Ref sig .tc := ⟨.hbm, 32, rfl⟩
abbrev main_while0b_v21 : Ref sig .tc := ⟨.hbm, 33, rfl⟩
abbrev main_while0b_v22 : Ref sig .tc := ⟨.hbm, 34, rfl⟩
abbrev main_while0b_cst_11 : Ref sig .tc := ⟨.hbm, 35, rfl⟩
abbrev main_while0b_v23 : Ref sig .tc := ⟨.hbm, 36, rfl⟩
abbrev main_while0b_v24 : Ref sig .tc := ⟨.hbm, 37, rfl⟩
abbrev main_while0b_cst_12 : Ref sig .tc := ⟨.hbm, 38, rfl⟩
abbrev main_while0b_v25 : Ref sig .tc := ⟨.hbm, 39, rfl⟩
abbrev main_while0b_v26 : Ref sig .tc := ⟨.hbm, 40, rfl⟩
abbrev main_while0b_v27 : Ref sig .tc := ⟨.hbm, 41, rfl⟩
abbrev main_while0b_v28 : Ref sig .tc := ⟨.hbm, 42, rfl⟩
abbrev main_while0b_v29 : Ref sig .tc := ⟨.hbm, 43, rfl⟩
abbrev main_while0b_v30 : Ref sig .tc := ⟨.hbm, 44, rfl⟩
abbrev main_while0b_v31 : Ref sig .tc := ⟨.hbm, 45, rfl⟩
abbrev main_while0b_v32 : Ref sig .tc := ⟨.hbm, 46, rfl⟩
abbrev main_while0b_v33 : Ref sig .tc := ⟨.hbm, 47, rfl⟩
abbrev main_while0b_v34 : Ref sig .tc := ⟨.hbm, 48, rfl⟩
abbrev main_while0b_v35 : Ref sig .tc := ⟨.hbm, 49, rfl⟩
abbrev main_while0b_cst_13 : Ref sig .tc := ⟨.hbm, 50, rfl⟩
abbrev main_while0b_v36 : Ref sig .tc := ⟨.hbm, 51, rfl⟩
abbrev main_while0b_v37 : Ref sig .tc := ⟨.hbm, 52, rfl⟩
abbrev main_while0b_cst_14 : Ref sig .tc := ⟨.hbm, 53, rfl⟩
abbrev main_while0b_v38 : Ref sig .tc := ⟨.hbm, 54, rfl⟩
abbrev main_while0b_v39 : Ref sig .tc := ⟨.hbm, 55, rfl⟩
abbrev main_while0b_v40 : Ref sig .tc := ⟨.hbm, 56, rfl⟩
abbrev main_while0b_call1_v0 : Ref sig .tc := ⟨.hbm, 57, rfl⟩
abbrev main_while0b_call1_c : Ref sig .tc := ⟨.hbm, 58, rfl⟩
abbrev main_while0b_call1_c_0 : Ref sig .tc := ⟨.hbm, 59, rfl⟩
abbrev main_while0b_v41 : Ref sig .tc := ⟨.hbm, 60, rfl⟩
abbrev main_while0b_c_15 : Ref sig .tc := ⟨.hbm, 61, rfl⟩
abbrev main_while0b_v42 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_cst_2 : Ref sig .tc := ⟨.hbm, 68, rfl⟩
abbrev main_v14 : Ref sig .tc := ⟨.hbm, 69, rfl⟩
abbrev main_cst_3 : Ref sig .tc := ⟨.hbm, 70, rfl⟩
abbrev main_v15 : Ref sig .tc := ⟨.hbm, 71, rfl⟩
abbrev main_cst_4 : Ref sig .tc := ⟨.hbm, 72, rfl⟩
abbrev main_v16 : Ref sig .tc := ⟨.hbm, 73, rfl⟩
abbrev main_c_5 : Ref sig .tc := ⟨.hbm, 74, rfl⟩
abbrev main_v17_0 : Ref sig .tc := ⟨.hbm, 75, rfl⟩
abbrev main_v17_1 : Ref sig .tc := ⟨.hbm, 76, rfl⟩
abbrev main_v17_2 : Ref sig .tc := ⟨.hbm, 77, rfl⟩
abbrev main_v17_3 : Ref sig .tc := ⟨.hbm, 78, rfl⟩
abbrev main_v17_4 : Ref sig .tc := ⟨.hbm, 79, rfl⟩
abbrev main_v17_5 : Ref sig .tc := ⟨.hbm, 80, rfl⟩
abbrev main_while1c_c_11 : Ref sig .tc := ⟨.hbm, 81, rfl⟩
abbrev main_while1c_v18 : Ref sig .tc := ⟨.hbm, 82, rfl⟩
abbrev main_while1b_call2_c : Ref sig .tc := ⟨.hbm, 83, rfl⟩
abbrev main_while1b_call2_c_0 : Ref sig .tc := ⟨.hbm, 84, rfl⟩
abbrev main_while1b_call2_v0 : Ref sig .tc := ⟨.hbm, 85, rfl⟩
abbrev main_while1b_v18 : Ref sig .tc := ⟨.hbm, 86, rfl⟩
abbrev main_while1b_v19 : Ref sig .tc := ⟨.hbm, 87, rfl⟩
abbrev main_while1b_v20 : Ref sig .tc := ⟨.hbm, 88, rfl⟩
abbrev main_while1b_v21 : Ref sig .tc := ⟨.hbm, 89, rfl⟩
abbrev main_while1b_v22 : Ref sig .tc := ⟨.hbm, 90, rfl⟩
abbrev main_while1b_cst_11 : Ref sig .tc := ⟨.hbm, 91, rfl⟩
abbrev main_while1b_v23 : Ref sig .tc := ⟨.hbm, 92, rfl⟩
abbrev main_while1b_v24 : Ref sig .tc := ⟨.hbm, 93, rfl⟩
abbrev main_while1b_cst_12 : Ref sig .tc := ⟨.hbm, 94, rfl⟩
abbrev main_while1b_v25 : Ref sig .tc := ⟨.hbm, 95, rfl⟩
abbrev main_while1b_v26 : Ref sig .tc := ⟨.hbm, 96, rfl⟩
abbrev main_while1b_v27 : Ref sig .tc := ⟨.hbm, 97, rfl⟩
abbrev main_while1b_v28 : Ref sig .tc := ⟨.hbm, 98, rfl⟩
abbrev main_while1b_v29 : Ref sig .tc := ⟨.hbm, 99, rfl⟩
abbrev main_while1b_v30 : Ref sig .tc := ⟨.hbm, 100, rfl⟩
abbrev main_while1b_v31 : Ref sig .tc := ⟨.hbm, 101, rfl⟩
abbrev main_while1b_v32 : Ref sig .tc := ⟨.hbm, 102, rfl⟩
abbrev main_while1b_v33 : Ref sig .tc := ⟨.hbm, 103, rfl⟩
abbrev main_while1b_v34 : Ref sig .tc := ⟨.hbm, 104, rfl⟩
abbrev main_while1b_v35 : Ref sig .tc := ⟨.hbm, 105, rfl⟩
abbrev main_while1b_cst_13 : Ref sig .tc := ⟨.hbm, 106, rfl⟩
abbrev main_while1b_v36 : Ref sig .tc := ⟨.hbm, 107, rfl⟩
abbrev main_while1b_v37 : Ref sig .tc := ⟨.hbm, 108, rfl⟩
abbrev main_while1b_cst_14 : Ref sig .tc := ⟨.hbm, 109, rfl⟩
abbrev main_while1b_v38 : Ref sig .tc := ⟨.hbm, 110, rfl⟩
abbrev main_while1b_v39 : Ref sig .tc := ⟨.hbm, 111, rfl⟩
abbrev main_while1b_v40 : Ref sig .tc := ⟨.hbm, 112, rfl⟩
abbrev main_while1b_call3_v0 : Ref sig .tc := ⟨.hbm, 113, rfl⟩
abbrev main_while1b_call3_c : Ref sig .tc := ⟨.hbm, 114, rfl⟩
abbrev main_while1b_call3_c_0 : Ref sig .tc := ⟨.hbm, 115, rfl⟩
abbrev main_while1b_v41 : Ref sig .tc := ⟨.hbm, 116, rfl⟩
abbrev main_while1b_c_15 : Ref sig .tc := ⟨.hbm, 117, rfl⟩
abbrev main_while1b_v42 : Ref sig .tc := ⟨.hbm, 118, rfl⟩

abbrev nD : Nat := 1
abbrev τ : Topo := Topo.v7x

variable {F : FTy → Type} [FloatOps F]

abbrev main_while0_count : Scf.Loop 32 := ⟨0#32, 512#32, 1#32⟩

abbrev main_while1_count : Scf.Loop 32 := ⟨0#32, 512#32, 1#32⟩
-- ==== Proof.Body.lean ====
/- The kernel body as a loop. The printed body unrolls sixteen time steps; here it is the same program written with ONE step
   at a row offset and a recursion over the steps, and `cc0_sublstm_fused_eq_body` says that the printed body is this
   program. Everything later argues about `stepProg` once and about the recursion by induction. -/
module

public import proofs.«01_k».proof.Proof.Gen.KernelIdeal.Skeleton

@[expose] public section

set_option maxRecDepth 16384

noncomputable section

namespace Cert.KernelIdeal.Sub

open Idealize.ShloMosaic Idealize.SL.Sem
open Cert.KernelIdeal Cert.KernelIdeal.Gen

variable {F : FTy → Type} [FloatOps F]

/-- The ring slot the second layer reads at a grid point, as the program computes it. -/
def slotR (i : grid0.Coords) : ℕ := k0_off1 i 0

/-- The ring slot the next chunk's second-layer inputs are stored into at a grid point, as the program computes it. -/
def slotW (i : grid0.Coords) : ℕ := k0_off17 i 0

/-- The slot that a point reads is one of the two. -/
theorem slotR_lt (i : grid0.Coords) : slotR i + 1 ≤ 2 := k0_off1_inb i 0

/-- The slot that a point writes is one of the two. -/
theorem slotW_lt (i : grid0.Coords) : slotW i + 1 ≤ 2 := k0_off17_inb i 0

/-! ### Side conditions of the accesses at step `k` -/

/-- Row block `k` of a chunk's first-layer inputs lies inside. -/
theorem inb13 {k : ℕ} (hk : k < 16) : ∀ a, (![32 * k, 0] : Fin 2 → ℕ) a + S32x4096.size a ≤ S512x4096.size a := by
  refine Fin.forall_fin_two.mpr ⟨?_, ?_⟩
  · show 32 * k + 32 ≤ 512; omega
  · show 0 + 4096 ≤ 4096; omega

/-- Row block `k` of a chunk's hidden states lies inside. -/
theorem inb14 {k : ℕ} (hk : k < 16) : ∀ a, (![32 * k, 0] : Fin 2 → ℕ) a + S32x1024.size a ≤ S512x1024.size a := by
  refine Fin.forall_fin_two.mpr ⟨?_, ?_⟩
  · show 32 * k + 32 ≤ 512; omega
  · show 0 + 1024 ≤ 1024; omega

/-- Row block `k` of the bf16 hidden states starts and ends at whole packed rows. -/
theorem packed14 {k : ℕ} (hk : k < 16) :
    (Rect.unit (s := S512x1024) ![32 * k, 0] S32x1024.size (inb14 hk)).PackedRows (EltTy.packing .bf16) := by
  have h : ∀ k : Fin 16, (Rect.unit (s := S512x1024) ![32 * k.val, 0] S32x1024.size (inb14 k.isLt)).PackedRows (EltTy.packing .bf16) := by
    decide +kernel
  exact h ⟨k, hk⟩

/-- Row block `k` of the slot read lies inside the ring. -/
theorem inb15 (i : grid0.Coords) {k : ℕ} (hk : k < 16) :
    ∀ a, (![slotR i, 32 * k, 0] : Fin 3 → ℕ) a + S1x32x4096.size a ≤ S2x512x4096.size a := by
  intro a
  match a with
  | 0 => exact slotR_lt i
  | 1 => show 32 * k + 32 ≤ 512; omega
  | 2 => show 0 + 4096 ≤ 4096; omega

/-- Row `k` of the output block lies inside. -/
theorem inb8 {k : ℕ} (hk : k < 16) : ∀ a, (![k, 0, 0] : Fin 3 → ℕ) a + S1x32x1024.size a ≤ S16x32x1024.size a := by
  intro a
  match a with
  | 0 => show k + 1 ≤ 16; omega
  | 1 => show 0 + 32 ≤ 32; omega
  | 2 => show 0 + 1024 ≤ 1024; omega

/-! ### The program -/

/-- One time step `k` of a chunk: a step of the first layer, whose hidden state goes to row block `k` of the chunk's hidden
    states, then a step of the second layer, whose hidden state goes to row block `k` of the output block. -/
def stepProg (i : grid0.Coords) (arg3 : Memref sig .tc .vmem S1024x4096 .fp8e4m3) (arg5 : Memref sig .tc .vmem S1024x4096 .bf16)
    (arg8 : Memref sig .tc .vmem S16x32x1024 .f32)
    (arg9 arg10 arg11 arg12 : Memref sig .tc .vmem S32x1024 .f32) (arg13 : Memref sig .tc .vmem S512x4096 .f32)
    (arg14 : Memref sig .tc .vmem S512x1024 .bf16) (harg14 : arg14.IsWhole) (arg15 : Memref sig .tc .vmem S2x512x4096 .bf16)
    (k : ℕ) (hk : k < 16) : Prog (TpuEff nD τ sig (Elt F) Λ₀ .tc) PUnit := do
  let p ← Prog.lift (.load arg13 (Rect.unit (s := S512x4096) ![32 * k, 0] S32x4096.size (inb13 hk)).toLoadRect (View.loadsAt_vmem h_S32x4096))
  let h1 ← Prog.lift (.load arg9 (Rect.unit (s := S32x1024) ![0, 0] S32x1024.size inb_S32x1024_S32x1024_0_0).toLoadRect (View.loadsAt_vmem h_S32x1024))
  let w0 ← Prog.lift (.load arg3 (Rect.unit (s := S1024x4096) ![0, 0] S1024x4096.size inb_S1024x4096_S1024x4096_0_0).toLoadRect (View.loadsAt_vmem h_S1024x4096))
  let c1 ← Prog.lift (.load arg10 (Rect.unit (s := S32x1024) ![0, 0] S32x1024.size inb_S32x1024_S32x1024_0_0).toLoadRect (View.loadsAt_vmem h_S32x1024))
  let _ ← Prog.lift (.load arg10 (Rect.unit (s := S32x1024) ![0, 0] S32x1024.size inb_S32x1024_S32x1024_0_0).toLoadRect (View.loadsAt_vmem h_S32x1024))
  Prog.lift (.store arg10 (Rect.unit (s := S32x1024) ![0, 0] S32x1024.size inb_S32x1024_S32x1024_0_0) (k0_pay10 p h1 w0 c1) Finset.univ (View.stores_vmem_bits_univ h_S32x1024 rfl) (.inl rfl))
  let _ ← Prog.lift (.load arg9 (Rect.unit (s := S32x1024) ![0, 0] S32x1024.size inb_S32x1024_S32x1024_0_0).toLoadRect (View.loadsAt_vmem h_S32x1024))
  Prog.lift (.store arg9 (Rect.unit (s := S32x1024) ![0, 0] S32x1024.size inb_S32x1024_S32x1024_0_0) (k0_pay11 p h1 w0 c1) Finset.univ (View.stores_vmem_bits_univ h_S32x1024 rfl) (.inl rfl))
  let _ ← Prog.lift (.load arg14 (Rect.unit (s := S512x1024) ![32 * k, 0] S32x1024.size (inb14 hk)).toLoadRect (View.loadsAt_vmem h_S32x1024))
  Prog.lift (.store arg14 (Rect.unit (s := S512x1024) ![32 * k, 0] S32x1024.size (inb14 hk)) (k0_pay12 p h1 w0 c1) Finset.univ (View.stores_vmem h_S32x1024 (harg14.storeExact_slice rfl _ (packed14 hk)) (fun _ => rfl)) (.inl rfl))
  let q ← Prog.lift (.load arg15 (Rect.unit (s := S2x512x4096) ![slotR i, 32 * k, 0] S1x32x4096.size (inb15 i hk)).toLoadRect (View.loadsAt_vmem h_S1x32x4096))
  let h2 ← Prog.lift (.load arg11 (Rect.unit (s := S32x1024) ![0, 0] S32x1024.size inb_S32x1024_S32x1024_0_0).toLoadRect (View.loadsAt_vmem h_S32x1024))
  let w1 ← Prog.lift (.load arg5 (Rect.unit (s := S1024x4096) ![0, 0] S1024x4096.size inb_S1024x4096_S1024x4096_0_0).toLoadRect (View.loadsAt_vmem h_S1024x4096))
  let c2 ← Prog.lift (.load arg12 (Rect.unit (s := S32x1024) ![0, 0] S32x1024.size inb_S32x1024_S32x1024_0_0).toLoadRect (View.loadsAt_vmem h_S32x1024))
  let _ ← Prog.lift (.load arg12 (Rect.unit (s := S32x1024) ![0, 0] S32x1024.size inb_S32x1024_S32x1024_0_0).toLoadRect (View.loadsAt_vmem h_S32x1024))
  Prog.lift (.store arg12 (Rect.unit (s := S32x1024) ![0, 0] S32x1024.size inb_S32x1024_S32x1024_0_0) (k0_pay16 q h2 w1 c2) Finset.univ (View.stores_vmem_bits_univ h_S32x1024 rfl) (.inl rfl))
  let _ ← Prog.lift (.load arg11 (Rect.unit (s := S32x1024) ![0, 0] S32x1024.size inb_S32x1024_S32x1024_0_0).toLoadRect (View.loadsAt_vmem h_S32x1024))
  Prog.lift (.store arg11 (Rect.unit (s := S32x1024) ![0, 0] S32x1024.size inb_S32x1024_S32x1024_0_0) (k0_pay17 q h2 w1 c2) Finset.univ (View.stores_vmem_bits_univ h_S32x1024 rfl) (.inl rfl))
  let _ ← Prog.lift (.load arg8 (Rect.unit (s := S16x32x1024) ![k, 0, 0] S1x32x1024.size (inb8 hk)).toLoadRect (View.loadsAt_vmem h_S1x32x1024))
  Prog.lift (.store arg8 (Rect.unit (s := S16x32x1024) ![k, 0, 0] S1x32x1024.size (inb8 hk)) (k0_pay18 q h2 w1 c2) Finset.univ (View.stores_vmem_bits_univ h_S1x32x1024 rfl) (.inl rfl))

/-- The steps `k, …, k + n − 1` of a chunk, then `rest`. -/
def stepsProg (i : grid0.Coords) (arg3 : Memref sig .tc .vmem S1024x4096 .fp8e4m3) (arg5 : Memref sig .tc .vmem S1024x4096 .bf16)
    (arg8 : Memref sig .tc .vmem S16x32x1024 .f32)
    (arg9 arg10 arg11 arg12 : Memref sig .tc .vmem S32x1024 .f32) (arg13 : Memref sig .tc .vmem S512x4096 .f32)
    (arg14 : Memref sig .tc .vmem S512x1024 .bf16) (harg14 : arg14.IsWhole) (arg15 : Memref sig .tc .vmem S2x512x4096 .bf16)
    (rest : Prog (TpuEff nD τ sig (Elt F) Λ₀ .tc) PUnit) :
    (n k : ℕ) → (k + n ≤ 16) → Prog (TpuEff nD τ sig (Elt F) Λ₀ .tc) PUnit
  | 0, _, _ => rest
  | n + 1, k, h =>
    stepProg i arg3 arg5 arg8 arg9 arg10 arg11 arg12 arg13 arg14 harg14 arg15 k (by omega) >>= fun _ =>
      stepsProg i arg3 arg5 arg8 arg9 arg10 arg11 arg12 arg13 arg14 harg14 arg15 rest n (k + 1) (by omega)

/-- After the steps: the second layer's inputs of the chunk just done, stored into the ring in four column blocks. -/
def ringProg (i : grid0.Coords) (arg4 : Memref sig .tc .vmem S1024x4096 .bf16) (arg7 : Memref sig .tc .vmem S1x4096 .f32)
    (arg14 : Memref sig .tc .vmem S512x1024 .bf16) (arg15 : Memref sig .tc .vmem S2x512x4096 .bf16) (harg15 : arg15.IsWhole) :
    Prog (TpuEff nD τ sig (Elt F) Λ₀ .tc) PUnit := do
  let h ← Prog.lift (.load arg14 (Rect.unit (s := S512x1024) ![0, 0] S512x1024.size inb_S512x1024_S512x1024_0_0).toLoadRect (View.loadsAt_vmem h_S512x1024))
  let w ← Prog.lift (.load arg4 (Rect.unit (s := S1024x4096) ![0, 0] S1024x4096.size inb_S1024x4096_S1024x4096_0_0).toLoadRect (View.loadsAt_vmem h_S1024x4096))
  let b ← Prog.lift (.load arg7 (Rect.unit (s := S1x4096) ![0, 0] S1x4096.size inb_S1x4096_S1x4096_0_0).toLoadRect (View.loadsAt_vmem h_S1x4096))
  let _ ← Prog.lift (.load arg15 (Rect.unit (s := S2x512x4096) (k0_off17 i) S1x512x1024.size (k0_off17_inb i)).toLoadRect (View.loadsAt_vmem h_S1x512x1024))
  Prog.lift (.store arg15 (Rect.unit (s := S2x512x4096) (k0_off17 i) S1x512x1024.size (k0_off17_inb i)) (k0_pay226 h w b) Finset.univ (View.stores_vmem h_S1x512x1024 (harg15.storeExact_slice rfl _ (k0_off17_packedbf16 i)) (fun _ => rfl)) (.inl rfl))
  let _ ← Prog.lift (.load arg15 (Rect.unit (s := S2x512x4096) (k0_off18 i) S1x512x1024.size (k0_off18_inb i)).toLoadRect (View.loadsAt_vmem h_S1x512x1024))
  Prog.lift (.store arg15 (Rect.unit (s := S2x512x4096) (k0_off18 i) S1x512x1024.size (k0_off18_inb i)) (k0_pay227 h w b) Finset.univ (View.stores_vmem h_S1x512x1024 (harg15.storeExact_slice rfl _ (k0_off18_packedbf16 i)) (fun _ => rfl)) (.inl rfl))
  let _ ← Prog.lift (.load arg15 (Rect.unit (s := S2x512x4096) (k0_off19 i) S1x512x1024.size (k0_off19_inb i)).toLoadRect (View.loadsAt_vmem h_S1x512x1024))
  Prog.lift (.store arg15 (Rect.unit (s := S2x512x4096) (k0_off19 i) S1x512x1024.size (k0_off19_inb i)) (k0_pay228 h w b) Finset.univ (View.stores_vmem h_S1x512x1024 (harg15.storeExact_slice rfl _ (k0_off19_packedbf16 i)) (fun _ => rfl)) (.inl rfl))
  let _ ← Prog.lift (.load arg15 (Rect.unit (s := S2x512x4096) (k0_off20 i) S1x512x1024.size (k0_off20_inb i)).toLoadRect (View.loadsAt_vmem h_S1x512x1024))
  Prog.lift (.store arg15 (Rect.unit (s := S2x512x4096) (k0_off20 i) S1x512x1024.size (k0_off20_inb i)) (k0_pay1 (k0_pay225 h w b)) Finset.univ (View.stores_vmem h_S1x512x1024 (harg15.storeExact_slice rfl _ (k0_off20_packedbf16 i)) (fun _ => rfl)) (.inl rfl))

/-- The first layer's inputs of the chunk, computed from the input block, the weights and the bias, then `rest`. -/
def preProg (arg1 : Memref sig .tc .vmem S16x32x1024 .f32) (arg2 : Memref sig .tc .vmem S1024x4096 .bf16) (arg6 : Memref sig .tc .vmem S1x4096 .f32)
    (arg13 : Memref sig .tc .vmem S512x4096 .f32) : Prog (TpuEff nD τ sig (Elt F) Λ₀ .tc) PUnit := do
  let x ← Prog.lift (.load arg1 (Rect.unit (s := S16x32x1024) ![0, 0, 0] S16x32x1024.size inb_S16x32x1024_S16x32x1024_0_0_0).toLoadRect (View.loadsAt_vmem h_S16x32x1024))
  let w ← Prog.lift (.load arg2 (Rect.unit (s := S1024x4096) ![0, 0] S1024x4096.size inb_S1024x4096_S1024x4096_0_0).toLoadRect (View.loadsAt_vmem h_S1024x4096))
  let b ← Prog.lift (.load arg6 (Rect.unit (s := S1x4096) ![0, 0] S1x4096.size inb_S1x4096_S1x4096_0_0).toLoadRect (View.loadsAt_vmem h_S1x4096))
  let _ ← Prog.lift (.load arg13 (Rect.unit (s := S512x4096) ![0, 0] S512x4096.size inb_S512x4096_S512x4096_0_0).toLoadRect (View.loadsAt_vmem h_S512x4096))
  Prog.lift (.store arg13 (Rect.unit (s := S512x4096) ![0, 0] S512x4096.size inb_S512x4096_S512x4096_0_0) (k0_pay6 x w b) Finset.univ (View.stores_vmem_bits_univ h_S512x4096 rfl) (.inl rfl))

/-- A layer's two states set to zero where the condition `cnd` (the program's own word) says so. -/
def zeroProg (cnd : BitVec 1) (ah ac : Memref sig .tc .vmem S32x1024 .f32) (zh zc : FVec F S32x1024 .f32) :
    Prog (TpuEff nD τ sig (Elt F) Λ₀ .tc) PUnit :=
  if h : cnd = 1#1 then do
    let _ ← Prog.lift (.load ah (Rect.unit (s := S32x1024) ![0, 0] S32x1024.size inb_S32x1024_S32x1024_0_0).toLoadRect (View.loadsAt_vmem h_S32x1024))
    Prog.lift (.store ah (Rect.unit (s := S32x1024) ![0, 0] S32x1024.size inb_S32x1024_S32x1024_0_0) zh Finset.univ (View.stores_vmem_bits_univ h_S32x1024 rfl) (.inl rfl))
    let _ ← Prog.lift (.load ac (Rect.unit (s := S32x1024) ![0, 0] S32x1024.size inb_S32x1024_S32x1024_0_0).toLoadRect (View.loadsAt_vmem h_S32x1024))
    Prog.lift (.store ac (Rect.unit (s := S32x1024) ![0, 0] S32x1024.size inb_S32x1024_S32x1024_0_0) zc Finset.univ (View.stores_vmem_bits_univ h_S32x1024 rfl) (.inl rfl))
    pure ⟨⟩
  else pure ⟨⟩

/-- The word of the first condition: the grid point is the first. -/
def cndA (i : grid0.Coords) : BitVec 1 := Scalar.cmpi .ne (Scalar.extui (Scalar.cmpi .eq (BitVec.ofNat 32 (i 0).val) 0#32) : BitVec 32) 0#32

/-- The word of the second condition: the grid point is the first or the second. -/
def cndB (i : grid0.Coords) : BitVec 1 := Scalar.cmpi .ne (Scalar.extui (Scalar.cmpi .sle (BitVec.ofNat 32 (i 0).val) 1#32) : BitVec 32) 0#32

/-- The whole body at a grid point. -/
def bodyProg (i : grid0.Coords) (arg1 : Memref sig .tc .vmem S16x32x1024 .f32) (arg2 : Memref sig .tc .vmem S1024x4096 .bf16)
    (arg3 : Memref sig .tc .vmem S1024x4096 .fp8e4m3) (arg4 arg5 : Memref sig .tc .vmem S1024x4096 .bf16)
    (arg6 arg7 : Memref sig .tc .vmem S1x4096 .f32) (arg8 : Memref sig .tc .vmem S16x32x1024 .f32)
    (arg9 arg10 arg11 arg12 : Memref sig .tc .vmem S32x1024 .f32) (arg13 : Memref sig .tc .vmem S512x4096 .f32)
    (arg14 : Memref sig .tc .vmem S512x1024 .bf16) (harg14 : arg14.IsWhole)
    (arg15 : Memref sig .tc .vmem S2x512x4096 .bf16) (harg15 : arg15.IsWhole) :
    Prog (TpuEff nD τ sig (Elt F) Λ₀ .tc) PUnit :=
  zeroProg (cndA i) arg9 arg10 k0_pay2 k0_pay3 >>= fun _ =>
  zeroProg (cndB i) arg11 arg12 k0_pay4 k0_pay5 >>= fun _ =>
  preProg arg1 arg2 arg6 arg13 >>= fun _ =>
  stepsProg i arg3 arg5 arg8 arg9 arg10 arg11 arg12 arg13 arg14 harg14 arg15
    (ringProg i arg4 arg7 arg14 arg15 harg15) 16 0 (by omega)

/-- A choice whose two branches go on with the same program `rest`, read as `zeroProg` and then `rest`. -/
theorem zeroProg_bind {β γ : Type} (cnd : BitVec 1) (ah ac : Memref sig .tc .vmem S32x1024 .f32) (zh zc : FVec F S32x1024 .f32)
    (rest : Prog (TpuEff nD τ sig (Elt F) Λ₀ .tc) β) (g : β → Prog (TpuEff nD τ sig (Elt F) Λ₀ .tc) γ) :
    (if h : cnd = 1#1 then do
        let _ ← Prog.lift (.load ah (Rect.unit (s := S32x1024) ![0, 0] S32x1024.size inb_S32x1024_S32x1024_0_0).toLoadRect (View.loadsAt_vmem h_S32x1024))
        Prog.lift (.store ah (Rect.unit (s := S32x1024) ![0, 0] S32x1024.size inb_S32x1024_S32x1024_0_0) zh Finset.univ (View.stores_vmem_bits_univ h_S32x1024 rfl) (.inl rfl))
        let _ ← Prog.lift (.load ac (Rect.unit (s := S32x1024) ![0, 0] S32x1024.size inb_S32x1024_S32x1024_0_0).toLoadRect (View.loadsAt_vmem h_S32x1024))
        Prog.lift (.store ac (Rect.unit (s := S32x1024) ![0, 0] S32x1024.size inb_S32x1024_S32x1024_0_0) zc Finset.univ (View.stores_vmem_bits_univ h_S32x1024 rfl) (.inl rfl))
        rest
      else rest) >>= g = zeroProg cnd ah ac zh zc >>= fun _ => rest >>= g := by
  unfold zeroProg
  split <;> rfl

set_option maxHeartbeats 4000000 in
/-- The printed body is `bodyProg`: the two choices come first, and behind them both programs are the same sequence of loads
    and stores. -/
theorem cc0_sublstm_fused_eq_body (i : grid0.Coords) (arg1 : Memref sig .tc .vmem S16x32x1024 .f32) (harg1 : arg1.IsWhole) (arg2 : Memref sig .tc .vmem S1024x4096 .bf16) (harg2 : arg2.IsWhole) (arg3 : Memref sig .tc .vmem S1024x4096 .fp8e4m3) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S16x32x1024 .f32) (harg8 : arg8.IsWhole) (arg9 : Memref sig .tc .vmem S32x1024 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S32x1024 .f32) (harg12 : arg12.IsWhole) (arg13 : Memref sig .tc .vmem S512x4096 .f32) (harg13 : arg13.IsWhole) (arg14 : Memref sig .tc .vmem S512x1024 .bf16) (harg14 : arg14.IsWhole) (arg15 : Memref sig .tc .vmem S2x512x4096 .bf16) (harg15 : arg15.IsWhole) :
    cc0_sublstm_fused (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15
      = bodyProg i arg1 arg2 arg3 arg4 arg5 arg6 arg7 arg8 arg9 arg10 arg11 arg12 arg13 arg14 harg14 arg15 harg15 := by
  rw [cc0_sublstm_fused_eq_skeleton]
  unfold cc0_sublstm_fused_skel
  rw [k0_part1_eq_skeleton]
  unfold k0_part1_skel bodyProg
  exact (zeroProg_bind (cndA i) arg9 arg10 k0_pay2 k0_pay3 _ _).trans (congrArg (zeroProg (cndA i) arg9 arg10 k0_pay2 k0_pay3 >>= ·)
    (funext fun _ => (zeroProg_bind (cndB i) arg11 arg12 k0_pay4 k0_pay5 _ _).trans
      (congrArg (zeroProg (cndB i) arg11 arg12 k0_pay4 k0_pay5 >>= ·) (funext fun _ => rfl))))

end Cert.KernelIdeal.Sub

end
-- ==== Proof.Step.lean ====
/- What one time step of the kernel body does to the buffers, by values. -/
module

public import proofs.«01_k».proof.Proof.Body
public import proofs.«01_k».proof.Proof.Gen.KernelIdeal.Frame
public import Idealize.ShloMosaic.Lib.VecWindow

@[expose] public section

set_option maxRecDepth 16384

noncomputable section

namespace Cert.KernelIdeal.Sub

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow
open Cert.KernelIdeal Cert.KernelIdeal.Gen

variable {F : FTy → Type} [FloatOps F]

local notation "𝕄" => MT nD τ sig Unit (Elt F) ℕ (UR sig nD τ) ℕ

/-- The ten buffers a time step works on, at given values: the two layers' recurrent weights, the output block, the two layers'
    states, the first layer's inputs, the first layer's hidden states of the chunk, the ring. -/
def stepBufs (c : Dev nD) (arg3 : Memref sig .tc .vmem S1024x4096 .fp8e4m3) (arg5 : Memref sig .tc .vmem S1024x4096 .bf16)
    (arg8 : Memref sig .tc .vmem S16x32x1024 .f32)
    (arg9 arg10 arg11 arg12 : Memref sig .tc .vmem S32x1024 .f32) (arg13 : Memref sig .tc .vmem S512x4096 .f32)
    (arg14 : Memref sig .tc .vmem S512x1024 .bf16) (arg15 : Memref sig .tc .vmem S2x512x4096 .bf16)
    (w0 : Vec F S1024x4096 .fp8e4m3) (w1 : Vec F S1024x4096 .bf16) (X : Vec F S16x32x1024 .f32)
    (h1 c1 h2 c2 : Vec F S32x1024 .f32) (P : Vec F S512x4096 .f32) (B : Vec F S512x1024 .bf16) (R : Vec F S2x512x4096 .bf16) : sProp 𝕄 :=
  iprop(owns (c : Thread nD τ) arg3 fullShare w0 ∗ owns (c : Thread nD τ) arg5 fullShare w1 ∗ owns (c : Thread nD τ) arg8 fullShare X
    ∗ owns (c : Thread nD τ) arg9 fullShare h1 ∗ owns (c : Thread nD τ) arg10 fullShare c1
    ∗ owns (c : Thread nD τ) arg11 fullShare h2 ∗ owns (c : Thread nD τ) arg12 fullShare c2
    ∗ owns (c : Thread nD τ) arg13 fullShare P ∗ owns (c : Thread nD τ) arg14 fullShare B ∗ owns (c : Thread nD τ) arg15 fullShare R)

set_option maxHeartbeats 1000000 in
/-- One time step: both layers' states move on, row block `k` of the chunk's hidden states and of the output block is written. -/
theorem step_triple (c : Dev nD) (i : grid0.Coords) (arg3 : Memref sig .tc .vmem S1024x4096 .fp8e4m3) (arg5 : Memref sig .tc .vmem S1024x4096 .bf16)
    (arg8 : Memref sig .tc .vmem S16x32x1024 .f32)
    (arg9 arg10 arg11 arg12 : Memref sig .tc .vmem S32x1024 .f32) (arg13 : Memref sig .tc .vmem S512x4096 .f32)
    (arg14 : Memref sig .tc .vmem S512x1024 .bf16) (harg14 : arg14.IsWhole) (arg15 : Memref sig .tc .vmem S2x512x4096 .bf16)
    (k : ℕ) (hk : k < 16)
    (w0 : Vec F S1024x4096 .fp8e4m3) (w1 : Vec F S1024x4096 .bf16) (X : Vec F S16x32x1024 .f32)
    (h1 c1 h2 c2 : Vec F S32x1024 .f32) (P : Vec F S512x4096 .f32) (B : Vec F S512x1024 .bf16) (R : Vec F S2x512x4096 .bf16)
    (p : Vec F S32x4096 .f32) (q : Vec F S1x32x4096 .bf16)
    (hp : window P ![32 * k, 0] S32x4096.size (inb13 hk) = p) (hq : window R ![slotR i, 32 * k, 0] S1x32x4096.size (inb15 i hk) = q)
    (E : Set ℕ) (K : PUnit → sProp 𝕄) :
    iprop(stepBufs c arg3 arg5 arg8 arg9 arg10 arg11 arg12 arg13 arg14 arg15 w0 w1 X h1 c1 h2 c2 P B R
        ∗ (stepBufs c arg3 arg5 arg8 arg9 arg10 arg11 arg12 arg13 arg14 arg15 w0 w1
            (put X ![k, 0, 0] S1x32x1024.size (k0_pay18 q h2 w1 c2))
            (k0_pay11 p h1 w0 c1) (k0_pay10 p h1 w0 c1) (k0_pay17 q h2 w1 c2) (k0_pay16 q h2 w1 c2) P
            (put B ![32 * k, 0] S32x1024.size (k0_pay12 p h1 w0 c1)) R -∗ K ⟨⟩))
      ⊢ wp frame (wpE (defs₀ (F := F)) Variants.none c none) E
          (stepProg i arg3 arg5 arg8 arg9 arg10 arg11 arg12 arg13 arg14 harg14 arg15 k hk) K := by
  unfold stepBufs
  sl_unfold [stepProg]
  unfold owns
  iintro ⟨⟨⟨%f3, %e3, H3⟩, ⟨%f5, %e5, H5⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩⟩, Hk⟩
  sl_exec
  sl_step
  have r3 := (View.readAt_full arg3.view f3 inb_S1024x4096_S1024x4096_0_0).trans e3
  have r5 := (View.readAt_full arg5.view f5 inb_S1024x4096_S1024x4096_0_0).trans e5
  have r9 := (View.readAt_full arg9.view f9 inb_S32x1024_S32x1024_0_0).trans e9
  have r10 := (View.readAt_full arg10.view f10 inb_S32x1024_S32x1024_0_0).trans e10
  have r11 := (View.readAt_full arg11.view f11 inb_S32x1024_S32x1024_0_0).trans e11
  have r12 := (View.readAt_full arg12.view f12 inb_S32x1024_S32x1024_0_0).trans e12
  have r13 : View.readAt (Elt F) arg13.view (Rect.unit (s := S512x4096) ![32 * k, 0] S32x4096.size (inb13 hk)).toLoadRect f13 = p :=
    (View.readAt_unit arg13.view f13 (inb13 hk) rfl (inb13 hk)).trans (by rw [e13]; exact hp)
  have r15 : View.readAt (Elt F) arg15.view (Rect.unit (s := S2x512x4096) ![slotR i, 32 * k, 0] S1x32x4096.size (inb15 i hk)).toLoadRect f15 = q :=
    (View.readAt_unit arg15.view f15 (inb15 i hk) rfl (inb15 i hk)).trans (by rw [e15]; exact hq)
  iapply Hk
  isplitl [H3]
  · iexists _; isplitr; · ipureintro; exact e3
    iexact H3
  isplitl [H5]
  · iexists _; isplitr; · ipureintro; exact e5
    iexact H5
  isplitl [H8]
  · iexists _; isplitr; swap; · iexact H8
    ipureintro
    exact (View.read_writes_cons_put arg8.view f8 (inb8 hk) _ [] rfl).trans (by rw [View.writes_nil, e8, r15, r11, r5, r12])
  isplitl [H9]
  · iexists _; isplitr; swap; · iexact H9
    ipureintro
    exact (View.read_writes_full arg9.view f9 inb_S32x1024_S32x1024_0_0 _ []).trans (by rw [r13, r9, r3, r10])
  isplitl [H10]
  · iexists _; isplitr; swap; · iexact H10
    ipureintro
    exact (View.read_writes_full arg10.view f10 inb_S32x1024_S32x1024_0_0 _ []).trans (by rw [r13, r9, r3, r10])
  isplitl [H11]
  · iexists _; isplitr; swap; · iexact H11
    ipureintro
    exact (View.read_writes_full arg11.view f11 inb_S32x1024_S32x1024_0_0 _ []).trans (by rw [r15, r11, r5, r12])
  isplitl [H12]
  · iexists _; isplitr; swap; · iexact H12
    ipureintro
    exact (View.read_writes_full arg12.view f12 inb_S32x1024_S32x1024_0_0 _ []).trans (by rw [r15, r11, r5, r12])
  isplitl [H13]
  · iexists _; isplitr; · ipureintro; exact e13
    iexact H13
  isplitl [H14]
  · iexists _; isplitr; swap; · iexact H14
    ipureintro
    exact (View.read_writes_cons_put arg14.view f14 (inb14 hk) _ [] rfl).trans (by rw [View.writes_nil, e14, r13, r9, r3, r10])
  iexists _; isplitr; · ipureintro; exact e15
  iexact H15

/-! ### The steps in a row -/

/-- The first layer's states (hidden, cell) after `k` steps from `s`, step `k`'s inputs being `p k`. -/
def seqA (w0 : Vec F S1024x4096 .fp8e4m3) (p : ℕ → Vec F S32x4096 .f32) (s : Vec F S32x1024 .f32 × Vec F S32x1024 .f32) :
    ℕ → Vec F S32x1024 .f32 × Vec F S32x1024 .f32
  | 0 => s
  | k + 1 => (k0_pay11 (p k) (seqA w0 p s k).1 w0 (seqA w0 p s k).2, k0_pay10 (p k) (seqA w0 p s k).1 w0 (seqA w0 p s k).2)

/-- The second layer's states (hidden, cell) after `k` steps from `s`, step `k`'s inputs being `q k`. -/
def seqB (w1 : Vec F S1024x4096 .bf16) (q : ℕ → Vec F S1x32x4096 .bf16) (s : Vec F S32x1024 .f32 × Vec F S32x1024 .f32) :
    ℕ → Vec F S32x1024 .f32 × Vec F S32x1024 .f32
  | 0 => s
  | k + 1 => (k0_pay17 (q k) (seqB w1 q s k).1 w1 (seqB w1 q s k).2, k0_pay16 (q k) (seqB w1 q s k).1 w1 (seqB w1 q s k).2)

/-- Row block `k` of the first layer's hidden states of the chunk. -/
def rowA (w0 : Vec F S1024x4096 .fp8e4m3) (p : ℕ → Vec F S32x4096 .f32) (s : Vec F S32x1024 .f32 × Vec F S32x1024 .f32) (k : ℕ) :
    Vec F S32x1024 .bf16 := k0_pay12 (p k) (seqA w0 p s k).1 w0 (seqA w0 p s k).2

/-- Row block `k` of the output block. -/
def rowB (w1 : Vec F S1024x4096 .bf16) (q : ℕ → Vec F S1x32x4096 .bf16) (s : Vec F S32x1024 .f32 × Vec F S32x1024 .f32) (k : ℕ) :
    Vec F S1x32x1024 .f32 := k0_pay18 (q k) (seqB w1 q s k).1 w1 (seqB w1 q s k).2

/-- The first `k` row blocks of the chunk's hidden states are `rowA`. -/
def hasA (w0 : Vec F S1024x4096 .fp8e4m3) (p : ℕ → Vec F S32x4096 .f32) (s : Vec F S32x1024 .f32 × Vec F S32x1024 .f32) (k : ℕ)
    (B : Vec F S512x1024 .bf16) : Prop :=
  ∀ j (hj : j < 16), j < k → window B ![32 * j, 0] S32x1024.size (inb14 hj) = rowA w0 p s j

/-- The first `k` row blocks of the output block are `rowB`. -/
def hasB (w1 : Vec F S1024x4096 .bf16) (q : ℕ → Vec F S1x32x4096 .bf16) (s : Vec F S32x1024 .f32 × Vec F S32x1024 .f32) (k : ℕ)
    (X : Vec F S16x32x1024 .f32) : Prop :=
  ∀ j (hj : j < 16), j < k → window X ![j, 0, 0] S1x32x1024.size (inb8 hj) = rowB w1 q s j

/-- Before the first step nothing is asked of the hidden states. -/
theorem hasA_zero (w0 : Vec F S1024x4096 .fp8e4m3) (p : ℕ → Vec F S32x4096 .f32) (s : Vec F S32x1024 .f32 × Vec F S32x1024 .f32)
    (B : Vec F S512x1024 .bf16) : hasA w0 p s 0 B := fun _ _ h => absurd h (Nat.not_lt_zero _)

/-- Before the first step nothing is asked of the output block. -/
theorem hasB_zero (w1 : Vec F S1024x4096 .bf16) (q : ℕ → Vec F S1x32x4096 .bf16) (s : Vec F S32x1024 .f32 × Vec F S32x1024 .f32)
    (X : Vec F S16x32x1024 .f32) : hasB w1 q s 0 X := fun _ _ h => absurd h (Nat.not_lt_zero _)

/-- Writing row block `k` extends the first `k` row blocks to `k + 1`. -/
theorem hasA_put {w0 : Vec F S1024x4096 .fp8e4m3} {p : ℕ → Vec F S32x4096 .f32} {s : Vec F S32x1024 .f32 × Vec F S32x1024 .f32} {k : ℕ}
    (hk : k < 16) {B : Vec F S512x1024 .bf16} (h : hasA w0 p s k B) :
    hasA w0 p s (k + 1) (put B ![32 * k, 0] S32x1024.size (rowA w0 p s k)) := by
  intro j hj hjk
  by_cases hjk' : j < k
  · rw [window_put_of_disjoint _ _ _ _ _ (inb14 hj) _ (0 : Fin 2) (.inl (by show 32 * j + 32 ≤ 32 * k; omega))]
    exact h j hj hjk'
  · obtain rfl : j = k := by omega
    exact window_put_same _ _ _ _ _

/-- Writing row block `k` extends the first `k` row blocks to `k + 1`. -/
theorem hasB_put {w1 : Vec F S1024x4096 .bf16} {q : ℕ → Vec F S1x32x4096 .bf16} {s : Vec F S32x1024 .f32 × Vec F S32x1024 .f32} {k : ℕ}
    (hk : k < 16) {X : Vec F S16x32x1024 .f32} (h : hasB w1 q s k X) :
    hasB w1 q s (k + 1) (put X ![k, 0, 0] S1x32x1024.size (rowB w1 q s k)) := by
  intro j hj hjk
  by_cases hjk' : j < k
  · rw [window_put_of_disjoint _ _ _ _ _ (inb8 hj) _ (0 : Fin 3) (.inl (by show j + 1 ≤ k; omega))]
    exact h j hj hjk'
  · obtain rfl : j = k := by omega
    exact window_put_same _ _ _ _ _

/-- The steps `k, …, k + n − 1`, by induction over the one step. -/
theorem steps_triple (c : Dev nD) (i : grid0.Coords) (arg3 : Memref sig .tc .vmem S1024x4096 .fp8e4m3) (arg5 : Memref sig .tc .vmem S1024x4096 .bf16)
    (arg8 : Memref sig .tc .vmem S16x32x1024 .f32)
    (arg9 arg10 arg11 arg12 : Memref sig .tc .vmem S32x1024 .f32) (arg13 : Memref sig .tc .vmem S512x4096 .f32)
    (arg14 : Memref sig .tc .vmem S512x1024 .bf16) (harg14 : arg14.IsWhole) (arg15 : Memref sig .tc .vmem S2x512x4096 .bf16)
    (rest : Prog (TpuEff nD τ sig (Elt F) Λ₀ .tc) PUnit)
    (w0 : Vec F S1024x4096 .fp8e4m3) (w1 : Vec F S1024x4096 .bf16) (P : Vec F S512x4096 .f32) (R : Vec F S2x512x4096 .bf16)
    (p : ℕ → Vec F S32x4096 .f32) (q : ℕ → Vec F S1x32x4096 .bf16) (sA sB : Vec F S32x1024 .f32 × Vec F S32x1024 .f32)
    (hp : ∀ k (hk : k < 16), window P ![32 * k, 0] S32x4096.size (inb13 hk) = p k)
    (hq : ∀ k (hk : k < 16), window R ![slotR i, 32 * k, 0] S1x32x4096.size (inb15 i hk) = q k)
    (E : Set ℕ) (K : PUnit → sProp 𝕄) (Fr : sProp 𝕄) (e : ℕ)
    (hrest : ∀ X B, hasA w0 p sA e B → hasB w1 q sB e X →
      iprop(stepBufs c arg3 arg5 arg8 arg9 arg10 arg11 arg12 arg13 arg14 arg15 w0 w1 X (seqA w0 p sA e).1 (seqA w0 p sA e).2
          (seqB w1 q sB e).1 (seqB w1 q sB e).2 P B R ∗ Fr)
        ⊢ wp frame (wpE (defs₀ (F := F)) Variants.none c none) E rest K) :
    ∀ (n k : ℕ) (h : k + n ≤ 16) (_ : k + n = e) (X : Vec F S16x32x1024 .f32) (B : Vec F S512x1024 .bf16), hasA w0 p sA k B → hasB w1 q sB k X →
      iprop(stepBufs c arg3 arg5 arg8 arg9 arg10 arg11 arg12 arg13 arg14 arg15 w0 w1 X (seqA w0 p sA k).1 (seqA w0 p sA k).2
          (seqB w1 q sB k).1 (seqB w1 q sB k).2 P B R ∗ Fr)
        ⊢ wp frame (wpE (defs₀ (F := F)) Variants.none c none) E
            (stepsProg i arg3 arg5 arg8 arg9 arg10 arg11 arg12 arg13 arg14 harg14 arg15 rest n k h) K := by
  intro n
  induction n with
  | zero =>
    intro k h hke X B hA hB
    obtain rfl : k = e := by omega
    exact hrest X B hA hB
  | succ n ih =>
    intro k h hke X B hA hB
    have hk : k < 16 := by omega
    show _ ⊢ wp frame (wpE (defs₀ (F := F)) Variants.none c none) E
      (stepProg i arg3 arg5 arg8 arg9 arg10 arg11 arg12 arg13 arg14 harg14 arg15 k hk >>= fun _ =>
        stepsProg i arg3 arg5 arg8 arg9 arg10 arg11 arg12 arg13 arg14 harg14 arg15 rest n (k + 1) (by omega)) K
    rw [wp_bind]
    refine Entails.trans (sep_mono_right (wand_intro_left ?_))
      (step_triple c i arg3 arg5 arg8 arg9 arg10 arg11 arg12 arg13 arg14 harg14 arg15 k hk w0 w1 X _ _ _ _ P B R (p k) (q k) (hp k hk) (hq k hk) E _)
    exact ih (k + 1) (by omega) (by omega) _ _ (hasA_put hk hA) (hasB_put hk hB)

/-! ### Before and after the steps -/

set_option maxHeartbeats 1000000 in
/-- A layer's states are set to zero when the word says so and are left alone otherwise. -/
theorem zero_triple (c : Dev nD) (cnd : BitVec 1) (ah ac : Memref sig .tc .vmem S32x1024 .f32) (zh zc h0 c0 : FVec F S32x1024 .f32)
    (E : Set ℕ) (K : PUnit → sProp 𝕄) :
    iprop((owns (c : Thread nD τ) ah fullShare h0 ∗ owns (c : Thread nD τ) ac fullShare c0)
        ∗ ((owns (c : Thread nD τ) ah fullShare (if cnd = 1#1 then zh else h0) ∗ owns (c : Thread nD τ) ac fullShare (if cnd = 1#1 then zc else c0)) -∗ K ⟨⟩))
      ⊢ wp frame (wpE (defs₀ (F := F)) Variants.none c none) E (zeroProg cnd ah ac zh zc) K := by
  by_cases hc : cnd = 1#1
  · rw [if_pos hc, if_pos hc]
    sl_unfold [zeroProg]
    unfold owns
    iintro ⟨⟨⟨%f0, %e0, H0⟩, ⟨%f1, %e1, H1⟩⟩, Hk⟩
    sl_exec (disch := first | sl_exact hc)
    sl_step
    iapply Hk
    isplitl [H0]
    · iexists _; isplitr; swap; · iexact H0
      ipureintro
      exact View.read_writes_full ah.view f0 inb_S32x1024_S32x1024_0_0 _ []
    iexists _; isplitr; swap; · iexact H1
    ipureintro
    exact View.read_writes_full ac.view f1 inb_S32x1024_S32x1024_0_0 _ []
  · rw [if_neg hc, if_neg hc]
    sl_unfold [zeroProg]
    unfold owns
    iintro ⟨⟨⟨%f0, %e0, H0⟩, ⟨%f1, %e1, H1⟩⟩, Hk⟩
    sl_exec (disch := first | sl_exact hc)
    sl_step
    iapply Hk
    isplitl [H0]
    · iexists _; isplitr; · ipureintro; exact e0
      iexact H0
    iexists _; isplitr; · ipureintro; exact e1
    iexact H1

set_option maxHeartbeats 1000000 in
/-- The first layer's inputs of the chunk. -/
theorem pre_triple (c : Dev nD) (arg1 : Memref sig .tc .vmem S16x32x1024 .f32) (arg2 : Memref sig .tc .vmem S1024x4096 .bf16) (arg6 : Memref sig .tc .vmem S1x4096 .f32)
    (arg13 : Memref sig .tc .vmem S512x4096 .f32) (x : Vec F S16x32x1024 .f32) (w : Vec F S1024x4096 .bf16) (b : Vec F S1x4096 .f32) (P : Vec F S512x4096 .f32)
    (E : Set ℕ) (K : PUnit → sProp 𝕄) :
    iprop((owns (c : Thread nD τ) arg1 fullShare x ∗ owns (c : Thread nD τ) arg2 fullShare w ∗ owns (c : Thread nD τ) arg6 fullShare b ∗ owns (c : Thread nD τ) arg13 fullShare P)
        ∗ ((owns (c : Thread nD τ) arg1 fullShare x ∗ owns (c : Thread nD τ) arg2 fullShare w ∗ owns (c : Thread nD τ) arg6 fullShare b ∗ owns (c : Thread nD τ) arg13 fullShare (k0_pay6 x w b)) -∗ K ⟨⟩))
      ⊢ wp frame (wpE (defs₀ (F := F)) Variants.none c none) E (preProg arg1 arg2 arg6 arg13) K := by
  sl_unfold [preProg]
  unfold owns
  iintro ⟨⟨⟨%f1, %e1, H1⟩, ⟨%f2, %e2, H2⟩, ⟨%f6, %e6, H6⟩, ⟨%f13, %e13, H13⟩⟩, Hk⟩
  sl_exec
  sl_step
  have r1 := (View.readAt_full arg1.view f1 inb_S16x32x1024_S16x32x1024_0_0_0).trans e1
  have r2 := (View.readAt_full arg2.view f2 inb_S1024x4096_S1024x4096_0_0).trans e2
  have r6 := (View.readAt_full arg6.view f6 inb_S1x4096_S1x4096_0_0).trans e6
  iapply Hk
  isplitl [H1]
  · iexists _; isplitr; · ipureintro; exact e1
    iexact H1
  isplitl [H2]
  · iexists _; isplitr; · ipureintro; exact e2
    iexact H2
  isplitl [H6]
  · iexists _; isplitr; · ipureintro; exact e6
    iexact H6
  iexists _; isplitr; swap; · iexact H13
  ipureintro
  exact (View.read_writes_full arg13.view f13 inb_S512x4096_S512x4096_0_0 _ []).trans (by rw [r1, r2, r6])

/-- The ring with the second layer's inputs of the chunk stored into the slot written at the point. -/
def ringPut (i : grid0.Coords) (R : Vec F S2x512x4096 .bf16) (h : Vec F S512x1024 .bf16) (w : Vec F S1024x4096 .bf16) (b : Vec F S1x4096 .f32) :
    Vec F S2x512x4096 .bf16 :=
  put (put (put (put R (k0_off17 i) S1x512x1024.size (k0_pay226 h w b)) (k0_off18 i) S1x512x1024.size (k0_pay227 h w b))
    (k0_off19 i) S1x512x1024.size (k0_pay228 h w b)) (k0_off20 i) S1x512x1024.size (k0_pay1 (k0_pay225 h w b))

set_option maxHeartbeats 1000000 in
/-- The second layer's inputs of the chunk go into the ring. -/
theorem ring_triple (c : Dev nD) (i : grid0.Coords) (arg4 : Memref sig .tc .vmem S1024x4096 .bf16) (arg7 : Memref sig .tc .vmem S1x4096 .f32)
    (arg14 : Memref sig .tc .vmem S512x1024 .bf16) (arg15 : Memref sig .tc .vmem S2x512x4096 .bf16) (harg15 : arg15.IsWhole)
    (w : Vec F S1024x4096 .bf16) (b : Vec F S1x4096 .f32) (B : Vec F S512x1024 .bf16) (R : Vec F S2x512x4096 .bf16)
    (E : Set ℕ) (K : PUnit → sProp 𝕄) :
    iprop((owns (c : Thread nD τ) arg4 fullShare w ∗ owns (c : Thread nD τ) arg7 fullShare b ∗ owns (c : Thread nD τ) arg14 fullShare B ∗ owns (c : Thread nD τ) arg15 fullShare R)
        ∗ ((owns (c : Thread nD τ) arg4 fullShare w ∗ owns (c : Thread nD τ) arg7 fullShare b ∗ owns (c : Thread nD τ) arg14 fullShare B ∗ owns (c : Thread nD τ) arg15 fullShare (ringPut i R B w b)) -∗ K ⟨⟩))
      ⊢ wp frame (wpE (defs₀ (F := F)) Variants.none c none) E (ringProg i arg4 arg7 arg14 arg15 harg15) K := by
  sl_unfold [ringProg]
  unfold owns
  iintro ⟨⟨⟨%f4, %e4, H4⟩, ⟨%f7, %e7, H7⟩, ⟨%f14, %e14, H14⟩, ⟨%f15, %e15, H15⟩⟩, Hk⟩
  sl_exec
  sl_step
  have r4 := (View.readAt_full arg4.view f4 inb_S1024x4096_S1024x4096_0_0).trans e4
  have r7 := (View.readAt_full arg7.view f7 inb_S1x4096_S1x4096_0_0).trans e7
  have r14 := (View.readAt_full arg14.view f14 inb_S512x1024_S512x1024_0_0).trans e14
  iapply Hk
  isplitl [H4]
  · iexists _; isplitr; · ipureintro; exact e4
    iexact H4
  isplitl [H7]
  · iexists _; isplitr; · ipureintro; exact e7
    iexact H7
  isplitl [H14]
  · iexists _; isplitr; · ipureintro; exact e14
    iexact H14
  iexists _; isplitr; swap; · iexact H15
  ipureintro
  unfold ringPut
  rw [View.read_writes_cons_put arg15.view f15 (k0_off20_inb i) _ _ rfl, View.read_writes_cons_put arg15.view f15 (k0_off19_inb i) _ _ rfl,
    View.read_writes_cons_put arg15.view f15 (k0_off18_inb i) _ _ rfl, View.read_writes_cons_put arg15.view f15 (k0_off17_inb i) _ _ rfl,
    View.writes_nil, e15, r4, r7, r14]

end Cert.KernelIdeal.Sub

end
-- ==== Proof.Chain.lean ====
/- The values the launch computes, as plain functions: the states of the two layers after each chunk, the chunk's hidden states
   of the first layer, the second layer's inputs they give, the output blocks; and the geometry that says a buffer written row
   block by row block holds them. -/
module

public import proofs.«01_k».proof.Proof.Step
public import Idealize.ShloMosaic.Lib.Pointwise

@[expose] public section

set_option maxRecDepth 16384

noncomputable section

namespace Cert.KernelIdeal.Sub

open Idealize.ShloMosaic Idealize.ShloMosaic.TcCoe Idealize.SL.Sem
open Idealize.ShloMosaic.VecWindow
open Cert.KernelIdeal Cert.KernelIdeal.Gen

variable {F : FTy → Type} [FloatOps F]

/-! ### Row blocks -/

/-- Row block `k` of a chunk's first-layer inputs. -/
def rowsP (P : Vec F S512x4096 .f32) (k : ℕ) : Vec F S32x4096 .f32 :=
  fun y => P (ix2 (⟨(32 * k + (y 0).val) % 512, Nat.mod_lt _ (by decide)⟩ : Fin 512) (⟨(y 1).val, (y 1).isLt⟩ : Fin 4096))

/-- Row block `k` of a chunk's second-layer inputs. -/
def rowsQ (Q : Vec F S512x4096 .bf16) (k : ℕ) : Vec F S1x32x4096 .bf16 :=
  fun y => Q (ix2 (⟨(32 * k + (y 1).val) % 512, Nat.mod_lt _ (by decide)⟩ : Fin 512) (⟨(y 2).val, (y 2).isLt⟩ : Fin 4096))

/-- Sixteen row blocks on top of each other. -/
def stackA (f : ℕ → Vec F S32x1024 .bf16) : Vec F S512x1024 .bf16 :=
  fun y => f ((y 0).val / 32) (ix2 (⟨(y 0).val % 32, Nat.mod_lt _ (by decide)⟩ : Fin 32) (⟨(y 1).val, (y 1).isLt⟩ : Fin 1024))

/-- Sixteen time steps of an output block. -/
def stackB (f : ℕ → Vec F S1x32x1024 .f32) : Vec F S16x32x1024 .f32 :=
  fun y => f (y 0).val (ix3 (0 : Fin 1) (⟨(y 1).val, (y 1).isLt⟩ : Fin 32) (⟨(y 2).val, (y 2).isLt⟩ : Fin 1024))

/-- Loading at row `32 k` gives row block `k`. -/
theorem window_rowsP (P : Vec F S512x4096 .f32) (k : ℕ) (hk : k < 16) : window P ![32 * k, 0] S32x4096.size (inb13 hk) = rowsP P k := by
  funext y
  refine congrArg P ((eq_ix2 _).trans ((ix2_inj ..).2 ⟨Fin.ext ?_, Fin.ext ?_⟩))
  · show 32 * k + 1 * (y 0).val = (32 * k + (y 0).val) % 512
    have h : (y 0).val < 32 := (y 0).isLt
    omega
  · show 0 + 1 * (y 1).val = (y 1).val
    omega

/-- With all sixteen row blocks in place the hidden states are the blocks stacked. -/
theorem hasA_full {w0 : Vec F S1024x4096 .fp8e4m3} {p : ℕ → Vec F S32x4096 .f32} {s : Vec F S32x1024 .f32 × Vec F S32x1024 .f32}
    {B : Vec F S512x1024 .bf16} (h : hasA w0 p s 16 B) : B = stackA (rowA w0 p s) := by
  funext y
  idx_vars y
  have hj : y0.val / 32 < 16 := by omega
  have := congrFun (h (y0.val / 32) hj hj) (ix2 (⟨y0.val % 32, Nat.mod_lt _ (by decide)⟩ : Fin 32) (⟨y1.val, y1.isLt⟩ : Fin 1024))
  refine Eq.trans (congrArg B (funext fun a => Fin.ext ?_)) this
  match a with
  | 0 => show y0.val = 32 * (y0.val / 32) + 1 * (y0.val % 32); omega
  | 1 => show y1.val = 0 + 1 * y1.val; omega

/-- With all sixteen rows in place the output block is the rows stacked. -/
theorem hasB_full {w1 : Vec F S1024x4096 .bf16} {q : ℕ → Vec F S1x32x4096 .bf16} {s : Vec F S32x1024 .f32 × Vec F S32x1024 .f32}
    {X : Vec F S16x32x1024 .f32} (h : hasB w1 q s 16 X) : X = stackB (rowB w1 q s) := by
  funext y
  idx_vars y
  have := congrFun (h y0.val y0.isLt y0.isLt) (ix3 (0 : Fin 1) (⟨y1.val, y1.isLt⟩ : Fin 32) (⟨y2.val, y2.isLt⟩ : Fin 1024))
  refine Eq.trans (congrArg X (funext fun a => Fin.ext ?_)) this
  match a with
  | 0 => show y0.val = y0.val + 1 * 0; omega
  | 1 => show y1.val = 0 + 1 * y1.val; omega
  | 2 => show y2.val = 0 + 1 * y2.val; omega

/-! ### The ring -/

/-- The slot read is the parity of the previous point. -/
theorem slotR_eq : ∀ i : grid0.Coords, slotR i = ((i 0).val + 1) % 2 := by decide +kernel

/-- The slot written is the parity of the point. -/
theorem slotW_eq : ∀ i : grid0.Coords, slotW i = (i 0).val % 2 := by decide +kernel

/-- A chunk's second-layer inputs: the first layer's hidden states times the second layer's input weights, plus the bias. -/
def pre2Of (h : Vec F S512x1024 .bf16) (w : Vec F S1024x4096 .bf16) (b : Vec F S1x4096 .f32) : Vec F S512x4096 .bf16 :=
  truncf .bf16 (k0_pay225 h w b) bitsLt_bf16_f32

/-- The first column block stored is that of the second layer's inputs. -/
theorem piece0 (h : Vec F S512x1024 .bf16) (w : Vec F S1024x4096 .bf16) (b : Vec F S1x4096 .f32) (z : Fin 1) (r : Fin 512) (e : Fin 1024) :
    k0_pay226 h w b (ix3 z r e) = pre2Of h w b (ix2 r ⟨0 + e.val, by omega⟩) := by
  pointwise [k0_pay226, pre2Of]

/-- The second column block. -/
theorem piece1 (h : Vec F S512x1024 .bf16) (w : Vec F S1024x4096 .bf16) (b : Vec F S1x4096 .f32) (z : Fin 1) (r : Fin 512) (e : Fin 1024) :
    k0_pay227 h w b (ix3 z r e) = pre2Of h w b (ix2 r ⟨1024 + e.val, by omega⟩) := by
  pointwise [k0_pay227, pre2Of]

/-- The third column block. -/
theorem piece2 (h : Vec F S512x1024 .bf16) (w : Vec F S1024x4096 .bf16) (b : Vec F S1x4096 .f32) (z : Fin 1) (r : Fin 512) (e : Fin 1024) :
    k0_pay228 h w b (ix3 z r e) = pre2Of h w b (ix2 r ⟨2048 + e.val, by omega⟩) := by
  pointwise [k0_pay228, pre2Of]

/-- The fourth column block. -/
theorem piece3 (h : Vec F S512x1024 .bf16) (w : Vec F S1024x4096 .bf16) (b : Vec F S1x4096 .f32) (z : Fin 1) (r : Fin 512) (e : Fin 1024) :
    k0_pay1 (k0_pay225 h w b) (ix3 z r e) = pre2Of h w b (ix2 r ⟨3072 + e.val, by omega⟩) := by
  pointwise [k0_pay1, pre2Of]

/-- A column block put at column `o` of slot `g`: inside the block its payload, outside what was there. -/
theorem put_cols (R : Vec F S2x512x4096 .bf16) (off : Fin 3 → ℕ) (g o : ℕ) (hoff : off = ![g, 0, o]) (ho : o + 1024 ≤ 4096) (wv : Vec F S1x512x1024 .bf16)
    (z : Fin 2) (hz : z.val = g) (r : Fin 512) (e : Fin 4096) :
    put R off S1x512x1024.size wv (ix3 z r e)
      = if h : o ≤ e.val ∧ e.val < o + 1024 then wv (ix3 (0 : Fin 1) r (⟨e.val - o, by omega⟩ : Fin 1024)) else R (ix3 z r e) := by
  subst hoff
  subst hz
  unfold put
  by_cases h : o ≤ e.val ∧ e.val < o + 1024
  · have hall : ∀ a : Fin 3, (![z.val, 0, o] : Fin 3 → ℕ) a ≤ ((ix3 z r e : S2x512x4096.Idx) a).val
        ∧ ((ix3 z r e : S2x512x4096.Idx) a).val < (![z.val, 0, o] : Fin 3 → ℕ) a + S1x512x1024.size a := by
      intro a
      match a with
      | 0 => exact ⟨le_refl _, Nat.lt_succ_self _⟩
      | 1 => exact ⟨Nat.zero_le _, by show r.val < 0 + 512; omega⟩
      | 2 => exact h
    rw [dif_pos h, dif_pos hall]
    refine congrArg wv (funext fun a => Fin.ext ?_)
    match a with
    | 0 => show z.val - z.val = 0; omega
    | 1 => show r.val - 0 = r.val; omega
    | 2 => rfl
  · rw [dif_neg h, dif_neg]
    intro hall
    exact h (hall (2 : Fin 3))

/-- The slot written at a point holds the chunk's second-layer inputs. -/
theorem ringPut_slot (i : grid0.Coords) (R : Vec F S2x512x4096 .bf16) (h : Vec F S512x1024 .bf16) (w : Vec F S1024x4096 .bf16) (b : Vec F S1x4096 .f32)
    (z : Fin 2) (hz : z.val = slotW i) (r : Fin 512) (e : Fin 4096) : ringPut i R h w b (ix3 z r e) = pre2Of h w b (ix2 r e) := by
  unfold ringPut
  rw [put_cols _ (k0_off20 i) (slotW i) 3072 rfl (by decide) _ z hz r e]
  by_cases h3 : 3072 ≤ e.val ∧ e.val < 3072 + 1024
  · rw [dif_pos h3, piece3]
    exact congrArg _ ((ix2_inj ..).2 ⟨rfl, Fin.ext (by show 3072 + (e.val - 3072) = e.val; omega)⟩)
  rw [dif_neg h3, put_cols _ (k0_off19 i) (slotW i) 2048 rfl (by decide) _ z hz r e]
  by_cases h2 : 2048 ≤ e.val ∧ e.val < 2048 + 1024
  · rw [dif_pos h2, piece2]
    exact congrArg _ ((ix2_inj ..).2 ⟨rfl, Fin.ext (by show 2048 + (e.val - 2048) = e.val; omega)⟩)
  rw [dif_neg h2, put_cols _ (k0_off18 i) (slotW i) 1024 rfl (by decide) _ z hz r e]
  by_cases h1 : 1024 ≤ e.val ∧ e.val < 1024 + 1024
  · rw [dif_pos h1, piece1]
    exact congrArg _ ((ix2_inj ..).2 ⟨rfl, Fin.ext (by show 1024 + (e.val - 1024) = e.val; omega)⟩)
  rw [dif_neg h1, put_cols _ (k0_off17 i) (slotW i) 0 rfl (by decide) _ z hz r e]
  have h0 : 0 ≤ e.val ∧ e.val < 0 + 1024 := by omega
  rw [dif_pos h0, piece0]
  exact congrArg _ ((ix2_inj ..).2 ⟨rfl, Fin.ext (by show 0 + (e.val - 0) = e.val; omega)⟩)

/-- A ring whose slot `g` holds a chunk's second-layer inputs. -/
def ringHas (Q : Vec F S512x4096 .bf16) (g : ℕ) (R : Vec F S2x512x4096 .bf16) : Prop :=
  ∀ (z : Fin 2) (r : Fin 512) (e : Fin 4096), z.val = g → R (ix3 z r e) = Q (ix2 r e)

/-- After the four column blocks are stored the slot written holds the chunk's second-layer inputs. -/
theorem ringHas_put (i : grid0.Coords) (R : Vec F S2x512x4096 .bf16) (h : Vec F S512x1024 .bf16) (w : Vec F S1024x4096 .bf16) (b : Vec F S1x4096 .f32) :
    ringHas (pre2Of h w b) (slotW i) (ringPut i R h w b) := fun z r e hz => ringPut_slot i R h w b z hz r e

/-- The same by row blocks: what the second layer's step `k` will load. -/
theorem ringHas_rows {Q : Vec F S512x4096 .bf16} {g : ℕ} {R : Vec F S2x512x4096 .bf16} (H : ringHas Q g R) (k : ℕ)
    (inb : ∀ a, (![g, 32 * k, 0] : Fin 3 → ℕ) a + S1x32x4096.size a ≤ S2x512x4096.size a) :
    window R ![g, 32 * k, 0] S1x32x4096.size inb = rowsQ Q k := by
  have hk : 32 * k + 32 ≤ 512 := inb (1 : Fin 3)
  have hs : g + 1 ≤ 2 := inb (0 : Fin 3)
  funext y
  idx_vars y
  refine Eq.trans (congrArg R (funext fun a => Fin.ext ?_))
    ((H ⟨g, by omega⟩ (⟨(32 * k + y1.val) % 512, Nat.mod_lt _ (by decide)⟩ : Fin 512) (⟨y2.val, y2.isLt⟩ : Fin 4096) rfl).trans rfl)
  match a with
  | 0 => show g + 1 * y0.val = g; omega
  | 1 => show 32 * k + 1 * y1.val = (32 * k + y1.val) % 512; omega
  | 2 => show 0 + 1 * y2.val = y2.val; omega

/-! ### The values -/

/-- What the launch reads: the input chunk by chunk, the weights and the biases as the kernel is handed them. -/
structure Ins (F : FTy → Type) [FloatOps F] where
  /-- chunk `n` of the input -/
  x : ℕ → Vec F S16x32x1024 .f32
  /-- first layer, input weights -/
  wi0 : Vec F S1024x4096 .bf16
  /-- first layer, recurrent weights -/
  wh0 : Vec F S1024x4096 .fp8e4m3
  /-- second layer, input weights -/
  wi1 : Vec F S1024x4096 .bf16
  /-- second layer, recurrent weights -/
  wh1 : Vec F S1024x4096 .bf16
  /-- first layer, bias -/
  b0 : Vec F S1x4096 .f32
  /-- second layer, bias -/
  b1 : Vec F S1x4096 .f32

variable (I : Ins F)

/-- The first layer's inputs of chunk `n`. -/
def pre1 (n : ℕ) : Vec F S512x4096 .f32 := k0_pay6 (I.x n) I.wi0 I.b0

/-- The first layer's states after `n` chunks. -/
def stA : ℕ → Vec F S32x1024 .f32 × Vec F S32x1024 .f32
  | 0 => (k0_pay2, k0_pay3)
  | n + 1 => seqA I.wh0 (rowsP (pre1 I n)) (stA n) 16

/-- The first layer's hidden states of chunk `n`. -/
def hid (n : ℕ) : Vec F S512x1024 .bf16 := stackA (rowA I.wh0 (rowsP (pre1 I n)) (stA I n))

/-- The second layer's inputs of chunk `n`. -/
def pre2 (n : ℕ) : Vec F S512x4096 .bf16 := pre2Of (hid I n) I.wi1 I.b1

/-- The second layer's states after `n` chunks. -/
def stB : ℕ → Vec F S32x1024 .f32 × Vec F S32x1024 .f32
  | 0 => (k0_pay4, k0_pay5)
  | n + 1 => seqB I.wh1 (rowsQ (pre2 I n)) (stB n) 16

/-- The output block of chunk `n`. -/
def outB (n : ℕ) : Vec F S16x32x1024 .f32 := stackB (rowB I.wh1 (rowsQ (pre2 I n)) (stB I n))

end Cert.KernelIdeal.Sub

end
-- ==== Proof.Point.lean ====
/- One grid point by values: what the kernel's body leaves in every buffer, first for arbitrary starting states and second-layer
   inputs, then at point `n` of the launch. -/
module

public import proofs.«01_k».proof.Proof.Chain

@[expose] public section

set_option maxRecDepth 16384

noncomputable section

namespace Cert.KernelIdeal.Sub

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow
open Cert.KernelIdeal Cert.KernelIdeal.Gen

variable {F : FTy → Type} [FloatOps F]

local notation "𝕄" => MT nD τ sig Unit (Elt F) ℕ (UR sig nD τ) ℕ

/-- The seven operands a body only reads, each at its contents. -/
def inBufs (c : Dev nD) (arg1 : Memref sig .tc .vmem S16x32x1024 .f32) (arg2 : Memref sig .tc .vmem S1024x4096 .bf16)
    (arg3 : Memref sig .tc .vmem S1024x4096 .fp8e4m3) (arg4 arg5 : Memref sig .tc .vmem S1024x4096 .bf16)
    (arg6 arg7 : Memref sig .tc .vmem S1x4096 .f32) (x : Vec F S16x32x1024 .f32) (wi0 : Vec F S1024x4096 .bf16)
    (wh0 : Vec F S1024x4096 .fp8e4m3) (wi1 wh1 : Vec F S1024x4096 .bf16) (b0 b1 : Vec F S1x4096 .f32) : sProp 𝕄 :=
  iprop(owns (c : Thread nD τ) arg1 fullShare x ∗ owns (c : Thread nD τ) arg2 fullShare wi0 ∗ owns (c : Thread nD τ) arg3 fullShare wh0
    ∗ owns (c : Thread nD τ) arg4 fullShare wi1 ∗ owns (c : Thread nD τ) arg5 fullShare wh1 ∗ owns (c : Thread nD τ) arg6 fullShare b0
    ∗ owns (c : Thread nD τ) arg7 fullShare b1)

/-- The output block and the seven scratch buffers, each at its contents. -/
def stBufs (c : Dev nD) (arg8 : Memref sig .tc .vmem S16x32x1024 .f32)
    (arg9 arg10 arg11 arg12 : Memref sig .tc .vmem S32x1024 .f32) (arg13 : Memref sig .tc .vmem S512x4096 .f32)
    (arg14 : Memref sig .tc .vmem S512x1024 .bf16) (arg15 : Memref sig .tc .vmem S2x512x4096 .bf16)
    (X : Vec F S16x32x1024 .f32) (sA sB : Vec F S32x1024 .f32 × Vec F S32x1024 .f32) (P : Vec F S512x4096 .f32) (B : Vec F S512x1024 .bf16)
    (R : Vec F S2x512x4096 .bf16) : sProp 𝕄 :=
  iprop(owns (c : Thread nD τ) arg8 fullShare X ∗ owns (c : Thread nD τ) arg9 fullShare sA.1 ∗ owns (c : Thread nD τ) arg10 fullShare sA.2
    ∗ owns (c : Thread nD τ) arg11 fullShare sB.1 ∗ owns (c : Thread nD τ) arg12 fullShare sB.2 ∗ owns (c : Thread nD τ) arg13 fullShare P
    ∗ owns (c : Thread nD τ) arg14 fullShare B ∗ owns (c : Thread nD τ) arg15 fullShare R)

set_option maxHeartbeats 1000000 in
/-- The body from states `sA`, `sB` (zero where the point's words say so) on second-layer inputs `q`: sixteen steps of both
    layers, and the ring's slot written. -/
theorem body_triple (c : Dev nD) (i : grid0.Coords) (arg1 : Memref sig .tc .vmem S16x32x1024 .f32) (arg2 : Memref sig .tc .vmem S1024x4096 .bf16)
    (arg3 : Memref sig .tc .vmem S1024x4096 .fp8e4m3) (arg4 arg5 : Memref sig .tc .vmem S1024x4096 .bf16)
    (arg6 arg7 : Memref sig .tc .vmem S1x4096 .f32) (arg8 : Memref sig .tc .vmem S16x32x1024 .f32)
    (arg9 arg10 arg11 arg12 : Memref sig .tc .vmem S32x1024 .f32) (arg13 : Memref sig .tc .vmem S512x4096 .f32)
    (arg14 : Memref sig .tc .vmem S512x1024 .bf16) (harg14 : arg14.IsWhole)
    (arg15 : Memref sig .tc .vmem S2x512x4096 .bf16) (harg15 : arg15.IsWhole)
    (x : Vec F S16x32x1024 .f32) (wi0 : Vec F S1024x4096 .bf16)
    (wh0 : Vec F S1024x4096 .fp8e4m3) (wi1 wh1 : Vec F S1024x4096 .bf16) (b0 b1 : Vec F S1x4096 .f32)
    (X : Vec F S16x32x1024 .f32) (s0A s0B sA sB : Vec F S32x1024 .f32 × Vec F S32x1024 .f32) (P : Vec F S512x4096 .f32) (B : Vec F S512x1024 .bf16)
    (R : Vec F S2x512x4096 .bf16) (q : ℕ → Vec F S1x32x4096 .bf16)
    (hsA : (if cndA i = 1#1 then (k0_pay2, k0_pay3) else s0A) = sA) (hsB : (if cndB i = 1#1 then (k0_pay4, k0_pay5) else s0B) = sB)
    (hq : ∀ k (hk : k < 16), window R ![slotR i, 32 * k, 0] S1x32x4096.size (inb15 i hk) = q k)
    (E : Set ℕ) (K : PUnit → sProp 𝕄) :
    iprop((inBufs c arg1 arg2 arg3 arg4 arg5 arg6 arg7 x wi0 wh0 wi1 wh1 b0 b1 ∗ stBufs c arg8 arg9 arg10 arg11 arg12 arg13 arg14 arg15 X s0A s0B P B R)
        ∗ ((inBufs c arg1 arg2 arg3 arg4 arg5 arg6 arg7 x wi0 wh0 wi1 wh1 b0 b1
            ∗ stBufs c arg8 arg9 arg10 arg11 arg12 arg13 arg14 arg15 (stackB (rowB wh1 q sB)) (seqA wh0 (rowsP (k0_pay6 x wi0 b0)) sA 16) (seqB wh1 q sB 16)
                (k0_pay6 x wi0 b0) (stackA (rowA wh0 (rowsP (k0_pay6 x wi0 b0)) sA)) (ringPut i R (stackA (rowA wh0 (rowsP (k0_pay6 x wi0 b0)) sA)) wi1 b1)) -∗ K ⟨⟩))
      ⊢ wp frame (wpE (defs₀ (F := F)) Variants.none c none) E
          (bodyProg i arg1 arg2 arg3 arg4 arg5 arg6 arg7 arg8 arg9 arg10 arg11 arg12 arg13 arg14 harg14 arg15 harg15) K := by
  have hA1 : (if cndA i = 1#1 then k0_pay2 else s0A.1) = sA.1 := by rw [← hsA]; split <;> rfl
  have hA2 : (if cndA i = 1#1 then k0_pay3 else s0A.2) = sA.2 := by rw [← hsA]; split <;> rfl
  have hB1 : (if cndB i = 1#1 then k0_pay4 else s0B.1) = sB.1 := by rw [← hsB]; split <;> rfl
  have hB2 : (if cndB i = 1#1 then k0_pay5 else s0B.2) = sB.2 := by rw [← hsB]; split <;> rfl
  unfold bodyProg
  simp only [wp_bind]
  unfold inBufs stBufs
  iintro ⟨⟨⟨H1, H2, H3, H4, H5, H6, H7⟩, H8, H9, H10, H11, H12, H13, H14, H15⟩, Hk⟩
  iapply (zero_triple c (cndA i) arg9 arg10 k0_pay2 k0_pay3 s0A.1 s0A.2 E _)
  isplitl [H9 H10]
  · isplitl [H9]; · iexact H9
    iexact H10
  rw [hA1, hA2]
  iintro ⟨H9, H10⟩
  iapply (zero_triple c (cndB i) arg11 arg12 k0_pay4 k0_pay5 s0B.1 s0B.2 E _)
  isplitl [H11 H12]
  · isplitl [H11]; · iexact H11
    iexact H12
  rw [hB1, hB2]
  iintro ⟨H11, H12⟩
  iapply (pre_triple c arg1 arg2 arg6 arg13 x wi0 b0 P E _)
  isplitl [H1 H2 H6 H13]
  · isplitl [H1]; · iexact H1
    isplitl [H2]; · iexact H2
    isplitl [H6]; · iexact H6
    iexact H13
  iintro ⟨H1, H2, H6, H13⟩
  iapply (steps_triple c i arg3 arg5 arg8 arg9 arg10 arg11 arg12 arg13 arg14 harg14 arg15 (ringProg i arg4 arg7 arg14 arg15 harg15)
    wh0 wh1 (k0_pay6 x wi0 b0) R (rowsP (k0_pay6 x wi0 b0)) q sA sB (fun k hk => window_rowsP _ k hk) hq E K
    iprop((owns (c : Thread nD τ) arg4 fullShare wi1 ∗ owns (c : Thread nD τ) arg7 fullShare b1
      ∗ owns (c : Thread nD τ) arg1 fullShare x ∗ owns (c : Thread nD τ) arg2 fullShare wi0 ∗ owns (c : Thread nD τ) arg6 fullShare b0)
      ∗ ((inBufs c arg1 arg2 arg3 arg4 arg5 arg6 arg7 x wi0 wh0 wi1 wh1 b0 b1
            ∗ stBufs c arg8 arg9 arg10 arg11 arg12 arg13 arg14 arg15 (stackB (rowB wh1 q sB)) (seqA wh0 (rowsP (k0_pay6 x wi0 b0)) sA 16) (seqB wh1 q sB 16)
                (k0_pay6 x wi0 b0) (stackA (rowA wh0 (rowsP (k0_pay6 x wi0 b0)) sA)) (ringPut i R (stackA (rowA wh0 (rowsP (k0_pay6 x wi0 b0)) sA)) wi1 b1)) -∗ K ⟨⟩)) 16
    (fun X' B' hA hB => by
      obtain rfl := hasA_full hA
      obtain rfl := hasB_full hB
      unfold stepBufs
      iintro ⟨⟨H3, H5, H8, H9, H10, H11, H12, H13, H14, H15⟩, ⟨H4, H7, H1, H2, H6⟩, Hk⟩
      iapply (ring_triple c i arg4 arg7 arg14 arg15 harg15 wi1 b1 _ R E K)
      isplitl [H4 H7 H14 H15]
      · isplitl [H4]; · iexact H4
        isplitl [H7]; · iexact H7
        isplitl [H14]; · iexact H14
        iexact H15
      iintro ⟨H4, H7, H14, H15⟩
      iapply Hk
      unfold inBufs stBufs
      isplitl [H1 H2 H3 H4 H5 H6 H7]
      · isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15)
    16 0 _ rfl X B (hasA_zero wh0 _ sA B) (hasB_zero wh1 q sB X))
  unfold stepBufs inBufs stBufs
  isplitl [H3 H5 H8 H9 H10 H11 H12 H13 H14 H15]
  · isplitl [H3]; · iexact H3
    isplitl [H5]; · iexact H5
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  isplitl [H1 H2 H4 H6 H7]
  · isplitl [H4]; · iexact H4
    isplitl [H7]; · iexact H7
    isplitl [H1]; · iexact H1
    isplitl [H2]; · iexact H2
    iexact H6
  iexact Hk

end Cert.KernelIdeal.Sub

end
-- ==== Proof.Run.lean ====
/- The launch: what every scratch buffer and every output block holds after each grid point, and what the program ends with. -/
module

public import proofs.«01_k».proof.Proof.Point
public import Idealize.ShloMosaic.Lib.Pipeline.ArrRel
public import Idealize.ShloMosaic.Lib.Pipeline.DatRel

@[expose] public section

set_option maxRecDepth 16384

noncomputable section

namespace Cert.KernelIdeal.Sub

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow
open Idealize.ShloMosaic.Pipeline (Dat RDat Cfg Window BodyObligationRel cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### Points and words -/

/-- A point's only coordinate is its number. -/
theorem coord_eq (t : Fin cfg0.N) : (grid0.coords t 0).val = t.val := by
  have ht : t.val < 33 := Nat.lt_of_lt_of_eq t.isLt N_0
  have e0 : (grid0.coords t 0).val = t.val / 1 % 33 := Pipeline.Grid.coords_val t 0 (by decide) rfl
  omega

/-- The first layer's states are reset at the first point only. -/
theorem cndA_iff (t : Fin cfg0.N) : cndA (grid0.coords t) = 1#1 ↔ t.val = 0 := by
  have ht : t.val < 33 := Nat.lt_of_lt_of_eq t.isLt N_0
  have e0 := coord_eq t
  simp only [cndA, e0]
  word_cmp

/-- The second layer's states are reset at the first two points. -/
theorem cndB_iff (t : Fin cfg0.N) : cndB (grid0.coords t) = 1#1 ↔ t.val ≤ 1 := by
  have ht : t.val < 33 := Nat.lt_of_lt_of_eq t.isLt N_0
  have e0 := coord_eq t
  simp only [cndB, e0]
  word_cmp

/-! ### The inputs, and the invariant -/

/-- A point by its number. -/
def pt (n : ℕ) : Fin cfg0.N := ⟨n % 33, lt_of_lt_of_eq (Nat.mod_lt _ (by decide)) N_0.symm⟩

/-- The point of a point's number is the point. -/
theorem pt_val (t : Fin cfg0.N) : pt t.val = t := Fin.ext (Nat.mod_eq_of_lt (lt_of_lt_of_eq t.isLt N_0))

/-- What core `c` hands the launch. -/
def insOf (c : Dev nD) : Ins F where
  x n := iblk m c 0 (pt n)
  wi0 := iblk m c 1 (pt 0)
  wh0 := iblk m c 2 (pt 0)
  wi1 := iblk m c 3 (pt 0)
  wh1 := iblk m c 4 (pt 0)
  b0 := iblk m c 5 (pt 0)
  b1 := iblk m c 6 (pt 0)

/-- The input block of a point is the chunk of its number. -/
theorem iblk_0 (c : Dev nD) (t : Fin cfg0.N) : iblk m c 0 t = (insOf m c).x t.val := by
  show _ = iblk m c 0 (pt t.val)
  rw [pt_val]
/-- The block of the first input weights is the same at every point. -/
theorem iblk_1 (c : Dev nD) (t : Fin cfg0.N) : iblk m c 1 t = (insOf m c).wi0 := rfl
/-- The block of the first recurrent weights is the same at every point. -/
theorem iblk_2 (c : Dev nD) (t : Fin cfg0.N) : iblk m c 2 t = (insOf m c).wh0 := rfl
/-- The block of the second input weights is the same at every point. -/
theorem iblk_3 (c : Dev nD) (t : Fin cfg0.N) : iblk m c 3 t = (insOf m c).wi1 := rfl
/-- The block of the second recurrent weights is the same at every point. -/
theorem iblk_4 (c : Dev nD) (t : Fin cfg0.N) : iblk m c 4 t = (insOf m c).wh1 := rfl
/-- The block of the first bias is the same at every point. -/
theorem iblk_5 (c : Dev nD) (t : Fin cfg0.N) : iblk m c 5 t = (insOf m c).b0 := rfl
/-- The block of the second bias is the same at every point. -/
theorem iblk_6 (c : Dev nD) (t : Fin cfg0.N) : iblk m c 6 t = (insOf m c).b1 := rfl

/-- The first layer's hidden state, -/
abbrev scr0 : Memref sig .tc .vmem S32x1024 .f32 := Memref.whole cc0_scratch0
/-- its cell state, -/
abbrev scr1 : Memref sig .tc .vmem S32x1024 .f32 := Memref.whole cc0_scratch1
/-- the second layer's hidden state, -/
abbrev scr2 : Memref sig .tc .vmem S32x1024 .f32 := Memref.whole cc0_scratch2
/-- its cell state, -/
abbrev scr3 : Memref sig .tc .vmem S32x1024 .f32 := Memref.whole cc0_scratch3
/-- the chunk's first-layer inputs, -/
abbrev scr4 : Memref sig .tc .vmem S512x4096 .f32 := Memref.whole cc0_scratch4
/-- the chunk's first-layer hidden states, -/
abbrev scr5 : Memref sig .tc .vmem S512x1024 .bf16 := Memref.whole cc0_scratch5
/-- the ring of second-layer inputs. -/
abbrev scr6 : Memref sig .tc .vmem S2x512x4096 .bf16 := Memref.whole cc0_scratch6

/-- What the launch hands the pipeline: every scratch buffer owned at some contents. -/
theorem PhiA_eq (c : Dev nD) :
    (Pipeline.ΦA spec0 c : sProp 𝕄)
      = iprop(((∃ d, owns (c : Thread nD τ) scr0 fullShare d) ∗ (∃ d, owns (c : Thread nD τ) scr1 fullShare d)
          ∗ (∃ d, owns (c : Thread nD τ) scr2 fullShare d) ∗ (∃ d, owns (c : Thread nD τ) scr3 fullShare d)
          ∗ (∃ d, owns (c : Thread nD τ) scr4 fullShare d) ∗ (∃ d, owns (c : Thread nD τ) scr5 fullShare d)
          ∗ (∃ d, owns (c : Thread nD τ) scr6 fullShare d)) ∗ (∃ r, prngReg c r)) := by
  unfold Pipeline.ΦA; rw [scopedRest0_eq]; simp only [scr0, scr1, scr2, scr3, scr4, scr5, scr6, owns_whole]; try rfl

/-- The scratch after point `n`: the first layer's states after `n + 1` chunks, the second layer's after `n` chunks (from the second
    point on), and in the ring's slot the second-layer inputs of chunk `n`. -/
def PhiS (c : Dev nD) : ℕ → sProp 𝕄
  | 0 => Pipeline.ΦA spec0 c
  | n + 1 => iprop((∃ sB : Vec F S32x1024 .f32 × Vec F S32x1024 .f32, ∃ P, ∃ B, ∃ R,
        ⌜(1 ≤ n → sB = stB (insOf m c) n) ∧ ringHas (pre2 (insOf m c) n) (n % 2) R⌝
        ∗ owns (c : Thread nD τ) scr0 fullShare (stA (insOf m c) (n + 1)).1 ∗ owns (c : Thread nD τ) scr1 fullShare (stA (insOf m c) (n + 1)).2
        ∗ owns (c : Thread nD τ) scr2 fullShare sB.1 ∗ owns (c : Thread nD τ) scr3 fullShare sB.2
        ∗ owns (c : Thread nD τ) scr4 fullShare P ∗ owns (c : Thread nD τ) scr5 fullShare B ∗ owns (c : Thread nD τ) scr6 fullShare R)
      ∗ (∃ r, prngReg c r))

/-! ### The pipeline's proof data -/

/-- The output is the window whose contents are told by a relation. -/
def told : Fin 8 → Bool := fun w => w.val == 7

/-- Exact data for the inputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ t := PhiS m c t.val
  q _ := fullShare
  owed _ := 0

/-- What the output's staging buffer holds after point `t`: from the second point on, the output block of chunk `t - 1`. -/
def leaves (c : Dev nD) : (w : Fin cfg0.W) → Fin cfg0.N → ((cfg0.win w).block.Idx → Elt F (cfg0.win w).elt) → Prop
  | ⟨7, _⟩ => fun t X => 1 ≤ t.val → X = outB (insOf m c) (t.val - 1)
  | _ => fun _ _ => True

/-- The arrays at the launch are what the host code leaves. -/
theorem A_eq (c : Dev nD) (w : Fin cfg0.W) : (dats m 0 c).A w = V m c (Pipeline.arrRef spec0 w) := by
  dsimp only [dats]

/-- A point leaves the input as it was. -/
theorem after_0 (c : Dev nD) (t : Fin cfg0.N) : (dats m 0 c).after 0 t = iblk m c 0 t := by dsimp only [dats]
/-- A point leaves the first input weights as they were. -/
theorem after_1 (c : Dev nD) (t : Fin cfg0.N) : (dats m 0 c).after 1 t = iblk m c 1 t := by dsimp only [dats]
/-- A point leaves the first recurrent weights as they were. -/
theorem after_2 (c : Dev nD) (t : Fin cfg0.N) : (dats m 0 c).after 2 t = iblk m c 2 t := by dsimp only [dats]
/-- A point leaves the second input weights as they were. -/
theorem after_3 (c : Dev nD) (t : Fin cfg0.N) : (dats m 0 c).after 3 t = iblk m c 3 t := by dsimp only [dats]
/-- A point leaves the second recurrent weights as they were. -/
theorem after_4 (c : Dev nD) (t : Fin cfg0.N) : (dats m 0 c).after 4 t = iblk m c 4 t := by dsimp only [dats]
/-- A point leaves the first bias as it was. -/
theorem after_5 (c : Dev nD) (t : Fin cfg0.N) : (dats m 0 c).after 5 t = iblk m c 5 t := by dsimp only [dats]
/-- A point leaves the second bias as it was. -/
theorem after_6 (c : Dev nD) (t : Fin cfg0.N) : (dats m 0 c).after 6 t = iblk m c 6 t := by dsimp only [dats]

/-- A point finds its block of the input. -/
theorem before_0 (c : Dev nD) (t : Fin cfg0.N) (d) : (dats m 0 c).before 0 t d = iblk m c 0 t :=
  before0_0_of m (dats m 0 c) (A_eq m c 0) (after_0 m c) t d
/-- A point finds its block of the first input weights. -/
theorem before_1 (c : Dev nD) (t : Fin cfg0.N) (d) : (dats m 0 c).before 1 t d = iblk m c 1 t :=
  before0_1_of m (dats m 0 c) (A_eq m c 1) (after_1 m c) t d
/-- A point finds its block of the first recurrent weights. -/
theorem before_2 (c : Dev nD) (t : Fin cfg0.N) (d) : (dats m 0 c).before 2 t d = iblk m c 2 t :=
  before0_2_of m (dats m 0 c) (A_eq m c 2) (after_2 m c) t d
/-- A point finds its block of the second input weights. -/
theorem before_3 (c : Dev nD) (t : Fin cfg0.N) (d) : (dats m 0 c).before 3 t d = iblk m c 3 t :=
  before0_3_of m (dats m 0 c) (A_eq m c 3) (after_3 m c) t d
/-- A point finds its block of the second recurrent weights. -/
theorem before_4 (c : Dev nD) (t : Fin cfg0.N) (d) : (dats m 0 c).before 4 t d = iblk m c 4 t :=
  before0_4_of m (dats m 0 c) (A_eq m c 4) (after_4 m c) t d
/-- A point finds its block of the first bias. -/
theorem before_5 (c : Dev nD) (t : Fin cfg0.N) (d) : (dats m 0 c).before 5 t d = iblk m c 5 t :=
  before0_5_of m (dats m 0 c) (A_eq m c 5) (after_5 m c) t d
/-- A point finds its block of the second bias. -/
theorem before_6 (c : Dev nD) (t : Fin cfg0.N) (d) : (dats m 0 c).before 6 t d = iblk m c 6 t :=
  before0_6_of m (dats m 0 c) (A_eq m c 6) (after_6 m c) t d

/-! ### The body at a point -/

/-- The inputs at a point, each staging buffer at its block. -/
def ptIns (c : Dev nD) (t : Fin cfg0.N) : sProp 𝕄 :=
  inBufs c (st0_0 t) (st0_1 t) (st0_2 t) (st0_3 t) (st0_4 t) (st0_5 t) (st0_6 t) ((insOf m c).x t.val) (insOf m c).wi0 (insOf m c).wh0
    (insOf m c).wi1 (insOf m c).wh1 (insOf m c).b0 (insOf m c).b1

/-- What point `t` leaves: the invariant after it, the inputs as they were, the output block. -/
def ptPost (c : Dev nD) (t : Fin cfg0.N) : sProp 𝕄 :=
  iprop(PhiS m c (t.val + 1) ∗ ptIns m c t
    ∗ ∃ X : Vec F S16x32x1024 .f32, ⌜1 ≤ t.val → X = outB (insOf m c) (t.val - 1)⌝ ∗ owns (c : Thread nD τ) (st0_7 t) fullShare X)

set_option maxHeartbeats 1000000 in
/-- A point from scratch at given contents, the second layer on inputs `q`. -/
theorem point_core (c : Dev nD) (t : Fin cfg0.N) (X : Vec F S16x32x1024 .f32) (s0A s0B sB : Vec F S32x1024 .f32 × Vec F S32x1024 .f32)
    (P : Vec F S512x4096 .f32) (B : Vec F S512x1024 .bf16) (R : Vec F S2x512x4096 .bf16) (q : ℕ → Vec F S1x32x4096 .bf16)
    (hsA : (if cndA (grid0.coords t) = 1#1 then (k0_pay2, k0_pay3) else s0A) = stA (insOf m c) t.val)
    (hsB : (if cndB (grid0.coords t) = 1#1 then (k0_pay4, k0_pay5) else s0B) = sB)
    (hq : ∀ k (hk : k < 16), window R ![slotR (grid0.coords t), 32 * k, 0] S1x32x4096.size (inb15 (grid0.coords t) hk) = q k)
    (hB : 1 ≤ t.val → sB = stB (insOf m c) (t.val - 1) ∧ q = rowsQ (pre2 (insOf m c) (t.val - 1))) (K : PUnit → sProp 𝕄) :
    iprop(((stBufs c (st0_7 t) scr0 scr1 scr2 scr3 scr4 scr5 scr6 X s0A s0B P B R ∗ (∃ r, prngReg c r)) ∗ ptIns m c t) ∗ (ptPost m c t -∗ K ⟨⟩))
      ⊢ wp frame (wpE (defs₀ (F := F)) Variants.none c none) Set.univ (bodyAt0 t) K := by
  unfold bodyAt0
  rw [cc0_sublstm_fused_eq_body]
  unfold ptPost ptIns
  iintro ⟨⟨⟨Hs, Hg⟩, Hi⟩, Hk⟩
  iapply (body_triple c (grid0.coords t) (st0_0 t) (st0_1 t) (st0_2 t) (st0_3 t) (st0_4 t) (st0_5 t) (st0_6 t) (st0_7 t) scr0 scr1 scr2 scr3 scr4 scr5
    (Memref.isWhole_whole _) scr6 (Memref.isWhole_whole _) ((insOf m c).x t.val) (insOf m c).wi0 (insOf m c).wh0 (insOf m c).wi1 (insOf m c).wh1
    (insOf m c).b0 (insOf m c).b1 X s0A s0B (stA (insOf m c) t.val) sB P B R q hsA hsB hq Set.univ K)
  isplitl [Hi Hs]
  · isplitl [Hi]; · iexact Hi
    iexact Hs
  unfold stBufs
  iintro ⟨Hi, H7, H0, H1, H2, H3, H4, H5, H6⟩
  iapply Hk
  isplitl [H0 H1 H2 H3 H4 H5 H6 Hg]
  · unfold PhiS
    isplitl [H0 H1 H2 H3 H4 H5 H6]
    · iexists (seqB (insOf m c).wh1 q sB 16); iexists _; iexists _; iexists _
      isplitr
      swap
      · isplitl [H0]; · iexact H0
        isplitl [H1]; · iexact H1
        isplitl [H2]; · iexact H2
        isplitl [H3]; · iexact H3
        isplitl [H4]; · iexact H4
        isplitl [H5]; · iexact H5
        iexact H6
      ipureintro
      refine ⟨fun h => ?_, ?_⟩
      · obtain ⟨h1, h2⟩ := hB h
        rw [h1, h2]
        obtain ⟨n, hn⟩ : ∃ n, t.val = n + 1 := ⟨t.val - 1, by omega⟩
        rw [hn]
        rfl
      · have := ringHas_put (grid0.coords t) R (hid (insOf m c) t.val) (insOf m c).wi1 (insOf m c).b1
        rw [slotW_eq, coord_eq] at this
        exact this
    iexact Hg
  isplitl [Hi]; · iexact Hi
  iexists _
  isplitr
  swap; · iexact H7
  ipureintro
  intro h
  obtain ⟨h1, h2⟩ := hB h
  rw [h1, h2]
  rfl

set_option maxHeartbeats 1000000 in
/-- A point from the invariant. -/
theorem point_triple (c : Dev nD) (t : Fin cfg0.N) (K : PUnit → sProp 𝕄) :
    iprop((PhiS m c t.val ∗ ptIns m c t ∗ ∃ X, owns (c : Thread nD τ) (st0_7 t) fullShare X) ∗ (ptPost m c t -∗ K ⟨⟩))
      ⊢ wp frame (wpE (defs₀ (F := F)) Variants.none c none) Set.univ (bodyAt0 t) K := by
  obtain hz | ⟨n, hn⟩ : t.val = 0 ∨ ∃ n, t.val = n + 1 := by
    rcases Nat.eq_zero_or_pos t.val with h | h
    · exact .inl h
    · exact .inr ⟨t.val - 1, by omega⟩
  · rw [hz]
    unfold PhiS
    rw [PhiA_eq]
    iintro ⟨⟨⟨⟨⟨%d0, H0⟩, ⟨%d1, H1⟩, ⟨%d2, H2⟩, ⟨%d3, H3⟩, ⟨%d4, H4⟩, ⟨%d5, H5⟩, ⟨%d6, H6⟩⟩, Hg⟩, Hi, ⟨%X, H7⟩⟩, Hk⟩
    iapply (point_core m c t X (d0, d1) (d2, d3) (k0_pay4, k0_pay5) d4 d5 d6
      (fun k => if hk : k < 16 then window d6 ![slotR (grid0.coords t), 32 * k, 0] S1x32x4096.size (inb15 (grid0.coords t) hk) else fun _ => d6 (ix3 0 0 0))
      ((if_pos ((cndA_iff t).2 hz)).trans (by rw [hz]; rfl)) (if_pos ((cndB_iff t).2 (by omega)))
      (fun k hk => by rw [dif_pos hk]) (fun h => absurd h (by omega)) K)
    unfold stBufs
    isplitl [Hi H0 H1 H2 H3 H4 H5 H6 H7 Hg]
    · isplitl [H0 H1 H2 H3 H4 H5 H6 H7 Hg]
      · isplitl [H0 H1 H2 H3 H4 H5 H6 H7]
        · isplitl [H7]; · iexact H7
          isplitl [H0]; · iexact H0
          isplitl [H1]; · iexact H1
          isplitl [H2]; · iexact H2
          isplitl [H3]; · iexact H3
          isplitl [H4]; · iexact H4
          isplitl [H5]; · iexact H5
          iexact H6
        iexact Hg
      iexact Hi
    iexact Hk
  · rw [hn]
    unfold PhiS
    iintro ⟨⟨⟨⟨%sB, %P, %B, %R, %hp, H0, H1, H2, H3, H4, H5, H6⟩, Hg⟩, Hi, ⟨%X, H7⟩⟩, Hk⟩
    iapply (point_core m c t X (stA (insOf m c) (n + 1)) sB (stB (insOf m c) n) P B R (rowsQ (pre2 (insOf m c) n))
      ((if_neg (fun h => by have := (cndA_iff t).1 h; omega)).trans (by rw [hn]))
      (by
        by_cases h1 : n = 0
        · subst h1
          exact if_pos ((cndB_iff t).2 (by omega))
        · rw [if_neg (fun h => by have := (cndB_iff t).1 h; omega)]
          exact hp.1 (by omega))
      (fun k hk => ringHas_rows (by
        have : slotR (grid0.coords t) = n % 2 := by rw [slotR_eq, coord_eq, hn]; omega
        rw [this]; exact hp.2) k _)
      (fun h => by rw [hn]; exact ⟨rfl, rfl⟩) K)
    unfold stBufs
    isplitl [Hi H0 H1 H2 H3 H4 H5 H6 H7 Hg]
    · isplitl [H0 H1 H2 H3 H4 H5 H6 H7 Hg]
      · isplitl [H0 H1 H2 H3 H4 H5 H6 H7]
        · isplitl [H7]; · iexact H7
          isplitl [H0]; · iexact H0
          isplitl [H1]; · iexact H1
          isplitl [H2]; · iexact H2
          isplitl [H3]; · iexact H3
          isplitl [H4]; · iexact H4
          isplitl [H5]; · iexact H5
          iexact H6
        iexact Hg
      iexact Hi
    iexact Hk

/-! ### The body obligation and the launch -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, ⌜((dats m 0 c).toRRel told (leaves m c)).Finds 7 t X⌝ ∗ owns (c : Thread nD τ) (st0_7 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜leaves m c 7 t X⌝ ∗ owns (c : Thread nD τ) (st0_7 t) fullShare X))

set_option maxHeartbeats 1000000 in
/-- The body at point `t` takes what it finds to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, after_0, after_1, after_2, after_3, after_4, after_5, after_6]
  rw [show (dats m 0 c).owesAt () t.succ = (dats m 0 c).owesAt () t.castSucc from rfl,
    show (dats m 0 c).Φ t.succ = PhiS m c (t.val + 1) from rfl, show (dats m 0 c).Φ t.castSucc = PhiS m c t.val from rfl]
  simp only [iblk_0, iblk_1, iblk_2, iblk_3, iblk_4, iblk_5, iblk_6]
  iintro ⟨HP, Ho, ⟨%d0, H0⟩, ⟨%d1, H1⟩, ⟨%d2, H2⟩, ⟨%d3, H3⟩, ⟨%d4, H4⟩, ⟨%d5, H5⟩, ⟨%d6, H6⟩, ⟨%X, %hX, H7⟩⟩
  iapply (point_triple m c t _)
  isplitl [HP H0 H1 H2 H3 H4 H5 H6 H7]
  · isplitl [HP]; · iexact HP
    isplitl [H0 H1 H2 H3 H4 H5 H6]
    · unfold ptIns inBufs
      isplitl [H0]; · iexact H0
      isplitl [H1]; · iexact H1
      isplitl [H2]; · iexact H2
      isplitl [H3]; · iexact H3
      isplitl [H4]; · iexact H4
      isplitl [H5]; · iexact H5
      iexact H6
    iexists X; iexact H7
  unfold ptPost ptIns inBufs
  iintro ⟨HP, ⟨H0, H1, H2, H3, H4, H5, H6⟩, ⟨%X', %hX', H7⟩⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists X'; isplitr; · ipureintro; exact hX'
  iexact H7

/-- The body table's row at point `t`'s slots is the body at that point. -/
theorem defs₀_row (t : Fin cfg0.N) : defs₀ (F := F) .tc cfg0.body (cfg0.bodyArgs t (cfg0.slots t)) = bodyAt0 t := by
  unfold defs₀; rw [Defs.onTc_tc]

/-- The body does at every point what the launch asks of it. -/
theorem body_obligation (c : Dev nD) :
    BodyObligationRel (dats m 0 c) (defs₀ (F := F)) Variants.none () Set.univ told (leaves m c) := fun t => by
  rw [bigSep_W0, bigSep_W0, defs₀_row]
  exact triple_restated (sound_body m c t) rfl .rfl fun _ => .rfl

/-- The invariant holds at the start. -/
theorem hin (c : Dev nD) : Pipeline.ΦA spec0 c ⊢ (dats m 0 c).Φ 0 := Idealize.SL.BI.Entails.refl _

/-- What the invariant holds is given back at the end. -/
theorem hout (c : Dev nD) : (dats m 0 c).Φ (Fin.last cfg0.N) ⊢ Pipeline.ΦA spec0 c := by
  rw [show (dats m 0 c).Φ (Fin.last cfg0.N) = PhiS m c (32 + 1) from congrArg (PhiS m c) N_0, PhiA_eq]
  unfold PhiS
  iintro ⟨⟨%sB, %P, %B, %R, %hp, H0, H1, H2, H3, H4, H5, H6⟩, Hg⟩
  isplitl [H0 H1 H2 H3 H4 H5 H6]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6
  iexact Hg

/-- The pipeline's data with the output told by `leaves`. -/
def rdat (c : Dev nD) : RDat τ (Elt F) Unit ℕ (UR sig nD τ) ℕ cfg0 c := (dats m 0 c).toRRel told (leaves m c)

set_option backward.isDefEq.respectTransparency.types false in
/-- The launch: it terminates, every array the pipeline stages ends as the data say, every other buffer as it was when the pipeline
    was entered, and every semaphore at zero. -/
theorem run_main : θ_run defs (onTc (τ := τ) (main (F := F))) (s₀ m ρ)
    (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

end Cert.KernelIdeal.Sub

end
-- ==== Proof.Ends.lean ====
/- What the launch leaves in the argument arrays: nothing of it changes. -/
module

public import proofs.«01_k».proof.Proof.Run
public import proofs.«01_k».proof.Proof.Gen.Kernel.Frame

@[expose] public section

set_option maxRecDepth 16384

noncomputable section

namespace Cert.KernelIdeal.Sub

open Idealize.ShloMosaic Idealize.ShloMosaic.TcCoe Idealize.SL.Sem
open Idealize.ShloMosaic.Pipeline (RDat)
open Cert.KernelIdeal Cert.KernelIdeal.Gen

variable {F : FTy → Type} [FloatOps F]

variable (m : (ℓ : Loc nD τ sig) → Buf (Elt F) ℓ) (ρ : Dev nD → PrngReg)

/-- The argument arrays of a final state are as launched. -/
theorem args_of {r : PUnit × MemSt nD τ sig (Elt F)} (h : RDat.FramePost (cfgs 0) (fun c => rdat m c) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(h.arr_in c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- The program runs, its argument arrays end unchanged, and every semaphore ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨args_of m h.1, h.2⟩) (run_main m ρ)

end Cert.KernelIdeal.Sub

namespace Cert.Kernel.Sub

open Idealize.ShloMosaic Idealize.ShloMosaic.TcCoe Idealize.SL.Sem
open Cert.Kernel Cert.Kernel.Gen

variable {F : FTy → Type} [FloatOps F]

/-- The kernel as compiled is the same text: its host part, -/
theorem main_eq : Cert.Kernel.main (F := F) = Cert.KernelIdeal.main (F := F) := rfl
/-- the body, -/
theorem body_eq : Cert.Kernel.cc0_sublstm_fused (F := F) = Cert.KernelIdeal.cc0_sublstm_fused (F := F) := rfl
/-- the table of the kernel's bodies, -/
theorem defs₀_eq : Cert.Kernel.defs₀ (F := F) = Cert.KernelIdeal.defs₀ (F := F) := by
  unfold Cert.Kernel.defs₀ Cert.KernelIdeal.defs₀
  refine congrArg Defs.onTc (funext fun l => ?_)
  match l with
  | ⟨0, _⟩ => exact funext fun a => by rw [body_eq]; rfl
/-- and the table of all bodies. -/
theorem defs_eq : Cert.Kernel.defs (F := F) = Cert.KernelIdeal.defs (F := F) := congrArg (Pipeline.defs (Cert.KernelIdeal.pcfgs (F := F))) defs₀_eq

/-- So it runs, its argument arrays end unchanged, and every semaphore ends at zero. -/
theorem frame_run (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) := by
  rw [defs_eq]
  exact Cert.KernelIdeal.Sub.frame_run (F := F) m ρ

end Cert.Kernel.Sub

end
-- ==== Proof.RefProg.lean ====
/- The reference program as two runs of one layer: a layer first multiplies the whole input by the input weights, then
   steps through the 512 time steps in a counted loop. Both layers are the same operations over different buffers; the
   buffers of one are a `Lay`, and the operations are stated once over it. -/
module

public import proofs.«01_k».proof.ReferenceIdeal
public import proofs.«01_k».proof.Proof.Gen.ReferenceIdeal
public import Idealize.ShloMosaic.Lib.StableHlo.RunLoop
public import Idealize.ShloMosaic.Lib.HostLoop.Rules

@[expose] public section

set_option maxRecDepth 16384

noncomputable section

namespace Cert.ReferenceIdeal.Sub

open Idealize.ShloMosaic Idealize.ShloMosaic.TcCoe Idealize.SL.Sem
open Idealize.ShloMosaic.StableHlo (TRef seq after)
open Cert.ReferenceIdeal Cert.ReferenceIdeal.Gen

variable {F : FTy → Type} [FloatOps F]

/-- The buffers one layer works in. -/
structure Lay where
  /-- the layer's input sequence, its weights and its bias -/
  xin : TRef sig ⟨S512x32x1024, .f32⟩
  wi : TRef sig ⟨S4096x1024, .f32⟩
  wh : TRef sig ⟨S4096x1024, .f32⟩
  bias : TRef sig ⟨S4096, .f32⟩
  /-- what is computed before the loop -/
  prod : TRef sig ⟨S512x32x4096, .f32⟩
  b1 : TRef sig ⟨S1x1x4096, .f32⟩
  b2 : TRef sig ⟨S512x32x4096, .f32⟩
  sum : TRef sig ⟨S512x32x4096, .f32⟩
  wt : TRef sig ⟨S1024x4096, .f32⟩
  zh : TRef sig ⟨S_, .f32⟩
  h0 : TRef sig ⟨S32x1024, .f32⟩
  zc : TRef sig ⟨S_, .f32⟩
  c0 : TRef sig ⟨S32x1024, .f32⟩
  zo : TRef sig ⟨S_, .f32⟩
  o0 : TRef sig ⟨S512x32x1024, .f32⟩
  k0 : TRef sig ⟨S_, .i32⟩
  /-- what the loop carries: the pre-activations, the recurrent weights, the counter, the two states, the outputs -/
  x : TRef sig ⟨S512x32x4096, .f32⟩
  w : TRef sig ⟨S1024x4096, .f32⟩
  k : TRef sig ⟨S_, .i32⟩
  h : TRef sig ⟨S32x1024, .f32⟩
  c : TRef sig ⟨S32x1024, .f32⟩
  o : TRef sig ⟨S512x32x1024, .f32⟩
  /-- the loop's test -/
  bound : TRef sig ⟨S_, .i32⟩
  test : TRef sig ⟨S_, .i1⟩
  /-- one time step: the row of pre-activations of this step -/
  z1 : TRef sig ⟨S_, .i32⟩
  z2 : TRef sig ⟨S_, .i32⟩
  cut : TRef sig ⟨S1x32x4096, .f32⟩
  row : TRef sig ⟨S32x4096, .f32⟩
  /-- the gates -/
  rmm : TRef sig ⟨S32x4096, .f32⟩
  act : TRef sig ⟨S32x4096, .f32⟩
  neg : TRef sig ⟨S32x4096, .f32⟩
  ex : TRef sig ⟨S32x4096, .f32⟩
  one1 : TRef sig ⟨S_, .f32⟩
  ones1 : TRef sig ⟨S32x4096, .f32⟩
  den : TRef sig ⟨S32x4096, .f32⟩
  one2 : TRef sig ⟨S_, .f32⟩
  ones2 : TRef sig ⟨S32x4096, .f32⟩
  gate : TRef sig ⟨S32x4096, .f32⟩
  gi : TRef sig ⟨S32x1024, .f32⟩
  go : TRef sig ⟨S32x1024, .f32⟩
  gz : TRef sig ⟨S32x1024, .f32⟩
  gf : TRef sig ⟨S32x1024, .f32⟩
  /-- the new states -/
  cf : TRef sig ⟨S32x1024, .f32⟩
  cz : TRef sig ⟨S32x1024, .f32⟩
  cnew : TRef sig ⟨S32x1024, .f32⟩
  cneg : TRef sig ⟨S32x1024, .f32⟩
  cex : TRef sig ⟨S32x1024, .f32⟩
  one3 : TRef sig ⟨S_, .f32⟩
  ones3 : TRef sig ⟨S32x1024, .f32⟩
  cden : TRef sig ⟨S32x1024, .f32⟩
  one4 : TRef sig ⟨S_, .f32⟩
  ones4 : TRef sig ⟨S32x1024, .f32⟩
  csig : TRef sig ⟨S32x1024, .f32⟩
  hnew : TRef sig ⟨S32x1024, .f32⟩
  /-- the output row put in its place, and the counter stepped -/
  put : TRef sig ⟨S1x32x1024, .f32⟩
  z3 : TRef sig ⟨S_, .i32⟩
  z4 : TRef sig ⟨S_, .i32⟩
  onew : TRef sig ⟨S512x32x1024, .f32⟩
  kone : TRef sig ⟨S_, .i32⟩
  knew : TRef sig ⟨S_, .i32⟩

/-- The first layer's buffers. -/
abbrev lay0 : Lay where
  xin := .of main_arg0
  wi := .of main_arg1
  wh := .of main_arg2
  bias := .of main_arg3
  prod := .of main_v0
  b1 := .of main_v1
  b2 := .of main_v2
  sum := .of main_v3
  wt := .of main_v4
  zh := .of main_cst
  h0 := .of main_v5
  zc := .of main_cst_0
  c0 := .of main_v6
  zo := .of main_cst_1
  o0 := .of main_v7
  k0 := .of main_c
  x := .of main_v8_0
  w := .of main_v8_1
  k := .of main_v8_2
  h := .of main_v8_3
  c := .of main_v8_4
  o := .of main_v8_5
  bound := .of main_while0c_c_11
  test := .of main_while0c_v18
  z1 := .of main_while0b_call0_c
  z2 := .of main_while0b_call0_c_0
  cut := .of main_while0b_call0_v0
  row := .of main_while0b_v18
  rmm := .of main_while0b_v19
  act := .of main_while0b_v20
  neg := .of main_while0b_v21
  ex := .of main_while0b_v22
  one1 := .of main_while0b_cst_11
  ones1 := .of main_while0b_v23
  den := .of main_while0b_v24
  one2 := .of main_while0b_cst_12
  ones2 := .of main_while0b_v25
  gate := .of main_while0b_v26
  gi := .of main_while0b_v27
  go := .of main_while0b_v28
  gz := .of main_while0b_v29
  gf := .of main_while0b_v30
  cf := .of main_while0b_v31
  cz := .of main_while0b_v32
  cnew := .of main_while0b_v33
  cneg := .of main_while0b_v34
  cex := .of main_while0b_v35
  one3 := .of main_while0b_cst_13
  ones3 := .of main_while0b_v36
  cden := .of main_while0b_v37
  one4 := .of main_while0b_cst_14
  ones4 := .of main_while0b_v38
  csig := .of main_while0b_v39
  hnew := .of main_while0b_v40
  put := .of main_while0b_call1_v0
  z3 := .of main_while0b_call1_c
  z4 := .of main_while0b_call1_c_0
  onew := .of main_while0b_v41
  kone := .of main_while0b_c_15
  knew := .of main_while0b_v42

/-- The second layer's buffers; its input is the first layer's output. -/
abbrev lay1 : Lay where
  xin := .of main_v8_5
  wi := .of main_arg4
  wh := .of main_arg5
  bias := .of main_arg6
  prod := .of main_v9
  b1 := .of main_v10
  b2 := .of main_v11
  sum := .of main_v12
  wt := .of main_v13
  zh := .of main_cst_2
  h0 := .of main_v14
  zc := .of main_cst_3
  c0 := .of main_v15
  zo := .of main_cst_4
  o0 := .of main_v16
  k0 := .of main_c_5
  x := .of main_v17_0
  w := .of main_v17_1
  k := .of main_v17_2
  h := .of main_v17_3
  c := .of main_v17_4
  o := .of main_v17_5
  bound := .of main_while1c_c_11
  test := .of main_while1c_v18
  z1 := .of main_while1b_call2_c
  z2 := .of main_while1b_call2_c_0
  cut := .of main_while1b_call2_v0
  row := .of main_while1b_v18
  rmm := .of main_while1b_v19
  act := .of main_while1b_v20
  neg := .of main_while1b_v21
  ex := .of main_while1b_v22
  one1 := .of main_while1b_cst_11
  ones1 := .of main_while1b_v23
  den := .of main_while1b_v24
  one2 := .of main_while1b_cst_12
  ones2 := .of main_while1b_v25
  gate := .of main_while1b_v26
  gi := .of main_while1b_v27
  go := .of main_while1b_v28
  gz := .of main_while1b_v29
  gf := .of main_while1b_v30
  cf := .of main_while1b_v31
  cz := .of main_while1b_v32
  cnew := .of main_while1b_v33
  cneg := .of main_while1b_v34
  cex := .of main_while1b_v35
  one3 := .of main_while1b_cst_13
  ones3 := .of main_while1b_v36
  cden := .of main_while1b_v37
  one4 := .of main_while1b_cst_14
  ones4 := .of main_while1b_v38
  csig := .of main_while1b_v39
  hnew := .of main_while1b_v40
  put := .of main_while1b_call3_v0
  z3 := .of main_while1b_call3_c
  z4 := .of main_while1b_call3_c_0
  onew := .of main_while1b_v41
  kone := .of main_while1b_c_15
  knew := .of main_while1b_v42

variable (L : Lay)

/-- What a layer computes before its loop: the pre-activations of every step, the transposed recurrent weights and the
    zeros everything starts from, copied into what the loop carries. -/
abbrev preOps : List (HloOp τ sig (Elt F)) :=
  [StableHlo.TRef.binary L.xin L.wi L.prod (fun l r => Host.dotGeneral dot_S512x32x1024_S4096x1024_S512x32x4096_2_1_01_0_n_n none l r),
   StableHlo.TRef.unary L.bias L.b1 (broadcastInDim S1x1x4096 ![2] bcast_S4096_S1x1x4096_2),
   StableHlo.TRef.unary L.b1 L.b2 (broadcastInDim S512x32x4096 ![0, 1, 2] bcast_S1x1x4096_S512x32x4096_0_1_2),
   StableHlo.TRef.binary L.prod L.b2 L.sum addf,
   StableHlo.TRef.unary L.wh L.wt (transpose S1024x4096 [1, 0] · transposes_S4096x1024_S1024x4096_1_0),
   StableHlo.TRef.nullary L.zh (constant S_ .f32 0x00000000#32),
   StableHlo.TRef.unary L.zh L.h0 (broadcastInDim S32x1024 ![] bcast_S_S32x1024),
   StableHlo.TRef.nullary L.zc (constant S_ .f32 0x00000000#32),
   StableHlo.TRef.unary L.zc L.c0 (broadcastInDim S32x1024 ![] bcast_S_S32x1024),
   StableHlo.TRef.nullary L.zo (constant S_ .f32 0x00000000#32),
   StableHlo.TRef.unary L.zo L.o0 (broadcastInDim S512x32x1024 ![] bcast_S_S512x32x1024),
   StableHlo.TRef.nullary L.k0 (constantI S_ 32 0#32),
   StableHlo.TRef.unary L.sum L.x id,
   StableHlo.TRef.unary L.wt L.w id,
   StableHlo.TRef.unary L.k0 L.k id,
   StableHlo.TRef.unary L.h0 L.h id,
   StableHlo.TRef.unary L.c0 L.c id,
   StableHlo.TRef.unary L.o0 L.o id]

/-- The loop's test: whether the counter is below 512. -/
abbrev condOps : List (HloOp τ sig (Elt F)) :=
  [StableHlo.TRef.nullary L.bound (constantI S_ 32 512#32),
   StableHlo.TRef.binary L.k L.bound L.test (cmpi .slt)]

/-- One time step. -/
abbrev tripOps : List (HloOp τ sig (Elt F)) :=
  [StableHlo.TRef.nullary L.z1 (constantI S_ 32 0#32),
   StableHlo.TRef.nullary L.z2 (constantI S_ 32 0#32),
   StableHlo.TRef.unaryIndexed L.x ![L.k, L.z1, L.z2] L.cut (fun x i => Host.dynamicSlice S1x32x4096 x (fun k => (i k (Shape.Idx.first h_S_)).toInt) sliceFits_S512x32x4096_S1x32x4096),
   StableHlo.TRef.reshape L.cut L.row (rfl : (.f32 : EltTy) = .f32) shapeCasts_S1x32x4096_S32x4096,
   StableHlo.TRef.binary L.h L.w L.rmm (fun l r => Host.dotGeneral dot_S32x1024_S1024x4096_S32x4096_1_0_0_1_n_n none l r),
   StableHlo.TRef.binary L.row L.rmm L.act addf,
   StableHlo.TRef.unary L.act L.neg Host.negf,
   StableHlo.TRef.unary L.neg L.ex Host.exp,
   StableHlo.TRef.nullary L.one1 (constant S_ .f32 0x3F800000#32),
   StableHlo.TRef.unary L.one1 L.ones1 (broadcastInDim S32x4096 ![] bcast_S_S32x4096),
   StableHlo.TRef.binary L.ones1 L.ex L.den addf,
   StableHlo.TRef.nullary L.one2 (constant S_ .f32 0x3F800000#32),
   StableHlo.TRef.unary L.one2 L.ones2 (broadcastInDim S32x4096 ![] bcast_S_S32x4096),
   StableHlo.TRef.binary L.ones2 L.den L.gate Host.divf,
   StableHlo.TRef.unary L.gate L.gi (extractStridedSlice S32x1024 ![0, 0] · slices_S32x4096_S32x1024_0_0),
   StableHlo.TRef.unary L.gate L.go (extractStridedSlice S32x1024 ![0, 1024] · slices_S32x4096_S32x1024_0_1024),
   StableHlo.TRef.unary L.gate L.gz (extractStridedSlice S32x1024 ![0, 2048] · slices_S32x4096_S32x1024_0_2048),
   StableHlo.TRef.unary L.gate L.gf (extractStridedSlice S32x1024 ![0, 3072] · slices_S32x4096_S32x1024_0_3072),
   StableHlo.TRef.binary L.c L.gf L.cf mulf,
   StableHlo.TRef.binary L.cf L.gz L.cz addf,
   StableHlo.TRef.binary L.cz L.gi L.cnew subf,
   StableHlo.TRef.unary L.cnew L.cneg Host.negf,
   StableHlo.TRef.unary L.cneg L.cex Host.exp,
   StableHlo.TRef.nullary L.one3 (constant S_ .f32 0x3F800000#32),
   StableHlo.TRef.unary L.one3 L.ones3 (broadcastInDim S32x1024 ![] bcast_S_S32x1024),
   StableHlo.TRef.binary L.ones3 L.cex L.cden addf,
   StableHlo.TRef.nullary L.one4 (constant S_ .f32 0x3F800000#32),
   StableHlo.TRef.unary L.one4 L.ones4 (broadcastInDim S32x1024 ![] bcast_S_S32x1024),
   StableHlo.TRef.binary L.ones4 L.cden L.csig Host.divf,
   StableHlo.TRef.binary L.csig L.go L.hnew subf,
   StableHlo.TRef.unary L.hnew L.put (broadcastInDim S1x32x1024 ![1, 2] bcast_S32x1024_S1x32x1024_1_2),
   StableHlo.TRef.nullary L.z3 (constantI S_ 32 0#32),
   StableHlo.TRef.nullary L.z4 (constantI S_ 32 0#32),
   StableHlo.TRef.binaryIndexed L.o L.put ![L.k, L.z3, L.z4] L.onew (fun x u i => Host.dynamicUpdateSlice x u (fun k => (i k (Shape.Idx.first h_S_)).toInt) updateFits_S512x32x1024_S1x32x1024),
   StableHlo.TRef.nullary L.kone (constantI S_ 32 1#32),
   StableHlo.TRef.binary L.k L.kone L.knew addi,
   StableHlo.TRef.unary L.knew L.k id,
   StableHlo.TRef.unary L.hnew L.h id,
   StableHlo.TRef.unary L.cnew L.c id,
   StableHlo.TRef.unary L.onew L.o id]

/-- The test as a program: it returns the comparison's bit. -/
def condProg : Prog (TpuEff nD τ sig (Elt F) (HostLoop.Sig (Pipeline.Sig Λ₀ (Fin 0) fun p => (pcfgs (F := F) p).Adm) 2) .tc) (Elt F .i1) := do
  hlo rfl (StableHlo.TRef.nullary L.bound (constantI S_ 32 512#32)) (fun _ => .ret ⟨⟩)
  let v ← hlo rfl (StableHlo.TRef.binary L.k L.bound L.test (cmpi .slt)) (HostLoop.elt L.test.ref L.test.ty_eq)
  pure v

/-- The printed test of the first loop is the layer's. -/
theorem cond0_eq : main_while0_cond (F := F) = condProg lay0 := rfl
/-- The printed test of the second loop is the layer's. -/
theorem cond1_eq : main_while1_cond (F := F) = condProg lay1 := rfl

/-- The printed body of the first loop is the layer's time step. -/
theorem body0_eq : main_while0_body (F := F) = Pipeline.chain ([tripOps lay0].map fun ops => (seq ops : Prog _ PUnit)) := by
  rw [List.map_cons, List.map_nil, StableHlo.chain_seq_cons]
  chain_rfl
/-- The printed body of the second loop is the layer's time step. -/
theorem body1_eq : main_while1_body (F := F) = Pipeline.chain ([tripOps lay1].map fun ops => (seq ops : Prog _ PUnit)) := by
  rw [List.map_cons, List.map_nil, StableHlo.chain_seq_cons]
  chain_rfl

/-- The printed program: the first layer's operations and its loop, then the second's. -/
theorem main_eq (d : Dev nD) : main (F := F) d = Pipeline.chain [seq (preOps lay0), HostLoop.enter 0, seq (preOps lay1), HostLoop.enter 1] := by
  rw [StableHlo.chain_seq_cons, Pipeline.chain_cons, StableHlo.chain_seq_cons, Pipeline.chain_cons]
  chain_rfl

end Cert.ReferenceIdeal.Sub

end
-- ==== Proof.RefStep.lean ====
/- What one layer of the reference computes: the values its operations leave, as functions of what they find. -/
module

public import proofs.«01_k».proof.Proof.RefProg
public import Idealize.ShloMosaic.Lib.StableHlo.RunClose
public import Idealize.ShloMosaic.Lib.StableHlo.RunRead

@[expose] public section

set_option maxRecDepth 16384

noncomputable section

namespace Cert.ReferenceIdeal.Sub

open Idealize.ShloMosaic Idealize.ShloMosaic.TcCoe Idealize.SL.Sem
open Idealize.ShloMosaic.StableHlo (TRef seq after unaryIndexed_result_read binaryIndexed_result_read indexContents_tref_cons indexContents_tref_empty)
open Cert.ReferenceIdeal Cert.ReferenceIdeal.Gen

variable {F : FTy → Type} [FloatOps F]

/-- What a buffer holds, at the type of the value it is for. -/
abbrev get {T : BufTy} (r : TRef sig T) (V : Valuation τ sig (Elt F)) : T.Contents (Elt F) := r.ofBuf (V (Proc.devRef .tc r.ref))

/-! ## The values -/

/-- The one at every entry, and the logistic function as the reference spells it. -/
def ones (s : Shape) (h : S_.BroadcastsInDim s (![] : Fin 0 → Fin s.rank)) : Vec F s .f32 :=
  broadcastInDim s ![] h (constant S_ .f32 0x3F800000#32)
/-- `1 / (1 + exp (-x))` at every entry. -/
def sigm (s : Shape) (h : S_.BroadcastsInDim s (![] : Fin 0 → Fin s.rank)) (x : Vec F s .f32) : Vec F s .f32 :=
  Host.divf (ones s h) (addf (ones s h) (Host.exp (Host.negf x)))

/-- The pre-activations of every step: the inputs times the input weights, plus the bias. -/
def preAll (X : Vec F S512x32x1024 .f32) (wi : Vec F S4096x1024 .f32) (b : Vec F S4096 .f32) : Vec F S512x32x4096 .f32 :=
  addf (Host.dotGeneral dot_S512x32x1024_S4096x1024_S512x32x4096_2_1_01_0_n_n none X wi)
    (broadcastInDim S512x32x4096 ![0, 1, 2] bcast_S1x1x4096_S512x32x4096_0_1_2 (broadcastInDim S1x1x4096 ![2] bcast_S4096_S1x1x4096_2 b))
/-- The recurrent weights transposed. -/
def wT (wh : Vec F S4096x1024 .f32) : Vec F S1024x4096 .f32 := transpose S1024x4096 [1, 0] wh transposes_S4096x1024_S1024x4096_1_0
/-- The zero state. -/
def zeroS : Vec F S32x1024 .f32 := broadcastInDim S32x1024 ![] bcast_S_S32x1024 (constant S_ .f32 0x00000000#32)
/-- The zero output. -/
def zeroO : Vec F S512x32x1024 .f32 := broadcastInDim S512x32x1024 ![] bcast_S_S512x32x1024 (constant S_ .f32 0x00000000#32)

/-- The start of row `k` along the first axis. -/
def startAt (k : (⟨S_, .i32⟩ : BufTy).Contents (Elt F)) : Fin 3 → ℤ :=
  fun a => ((![k, constantI S_ 32 0#32, constantI S_ 32 0#32] : Fin 3 → (⟨S_, .i32⟩ : BufTy).Contents (Elt F)) a (Shape.Idx.first h_S_)).toInt
/-- The pre-activations of step `k`. -/
def rowAt (X : Vec F S512x32x4096 .f32) (k : (⟨S_, .i32⟩ : BufTy).Contents (Elt F)) : Vec F S32x4096 .f32 :=
  shapeCast S32x4096 (Host.dynamicSlice S1x32x4096 X (startAt k) sliceFits_S512x32x4096_S1x32x4096) shapeCasts_S1x32x4096_S32x4096
/-- The gates of a step from its pre-activations `p`. -/
def gates (p : Vec F S32x4096 .f32) (w : Vec F S1024x4096 .f32) (h : Vec F S32x1024 .f32) : Vec F S32x4096 .f32 :=
  sigm S32x4096 bcast_S_S32x4096 (addf p (Host.dotGeneral dot_S32x1024_S1024x4096_S32x4096_1_0_0_1_n_n none h w))
/-- The new cell state: the old one times the forget gate, plus the candidate, minus the input gate. -/
def cellNext (g : Vec F S32x4096 .f32) (c : Vec F S32x1024 .f32) : Vec F S32x1024 .f32 :=
  subf (addf (mulf c (extractStridedSlice S32x1024 ![0, 3072] g slices_S32x4096_S32x1024_0_3072))
    (extractStridedSlice S32x1024 ![0, 2048] g slices_S32x4096_S32x1024_0_2048)) (extractStridedSlice S32x1024 ![0, 0] g slices_S32x4096_S32x1024_0_0)
/-- The new hidden state: the logistic function of the new cell state, minus the output gate. -/
def hidNext (g : Vec F S32x4096 .f32) (c : Vec F S32x1024 .f32) : Vec F S32x1024 .f32 :=
  subf (sigm S32x1024 bcast_S_S32x1024 (cellNext g c)) (extractStridedSlice S32x1024 ![0, 1024] g slices_S32x4096_S32x1024_0_1024)
/-- The outputs with row `k` replaced. -/
def putAt (o : Vec F S512x32x1024 .f32) (h : Vec F S32x1024 .f32) (k : (⟨S_, .i32⟩ : BufTy).Contents (Elt F)) : Vec F S512x32x1024 .f32 :=
  Host.dynamicUpdateSlice o (broadcastInDim S1x32x1024 ![1, 2] bcast_S32x1024_S1x32x1024_1_2 h) (startAt k) updateFits_S512x32x1024_S1x32x1024

/-! ## What the operations leave -/

/-- What is asked of a layer's buffers: its operations read and write them as values, none in another's way. -/
structure Reads (F : FTy → Type) [FloatOps F] (L : Lay) : Prop where
  pre_x : ∀ V : Valuation τ sig (Elt F), get L.x (after (preOps L) V) = preAll (get L.xin V) (get L.wi V) (get L.bias V)
  pre_w : ∀ V : Valuation τ sig (Elt F), get L.w (after (preOps L) V) = wT (get L.wh V)
  pre_k : ∀ V : Valuation τ sig (Elt F), get L.k (after (preOps L) V) = constantI S_ 32 0#32
  pre_h : ∀ V : Valuation τ sig (Elt F), get L.h (after (preOps L) V) = zeroS
  pre_c : ∀ V : Valuation τ sig (Elt F), get L.c (after (preOps L) V) = zeroS
  pre_o : ∀ V : Valuation τ sig (Elt F), get L.o (after (preOps L) V) = zeroO
  cond_test : ∀ V : Valuation τ sig (Elt F), get L.test (after (condOps L) V) = cmpi .slt (get L.k V) (constantI S_ 32 512#32)
  cond_x : ∀ V : Valuation τ sig (Elt F), get L.x (after (condOps L) V) = get L.x V
  cond_w : ∀ V : Valuation τ sig (Elt F), get L.w (after (condOps L) V) = get L.w V
  cond_k : ∀ V : Valuation τ sig (Elt F), get L.k (after (condOps L) V) = get L.k V
  cond_h : ∀ V : Valuation τ sig (Elt F), get L.h (after (condOps L) V) = get L.h V
  cond_c : ∀ V : Valuation τ sig (Elt F), get L.c (after (condOps L) V) = get L.c V
  cond_o : ∀ V : Valuation τ sig (Elt F), get L.o (after (condOps L) V) = get L.o V
  trip_x : ∀ V : Valuation τ sig (Elt F), get L.x (after (tripOps L) V) = get L.x V
  trip_w : ∀ V : Valuation τ sig (Elt F), get L.w (after (tripOps L) V) = get L.w V
  trip_k : ∀ V : Valuation τ sig (Elt F), get L.k (after (tripOps L) V) = addi (get L.k V) (constantI S_ 32 1#32)
  trip_c : ∀ V : Valuation τ sig (Elt F), get L.c (after (tripOps L) V)
    = cellNext (gates (rowAt (get L.x V) (get L.k V)) (get L.w V) (get L.h V)) (get L.c V)
  trip_h : ∀ V : Valuation τ sig (Elt F), get L.h (after (tripOps L) V)
    = hidNext (gates (rowAt (get L.x V) (get L.k V)) (get L.w V) (get L.h V)) (get L.c V)
  trip_o : ∀ V : Valuation τ sig (Elt F), get L.o (after (tripOps L) V)
    = putAt (get L.o V) (hidNext (gates (rowAt (get L.x V) (get L.k V)) (get L.w V) (get L.h V)) (get L.c V)) (get L.k V)

set_option maxHeartbeats 1000000 in
/-- The first layer's buffers are read and written as they should be. -/
theorem reads0 : Reads F lay0 := by
  constructor <;> intro V <;> dsimp only [get, lay0, preOps, condOps, tripOps] <;>
    after_reads_simp [unaryIndexed_result_read, binaryIndexed_result_read, indexContents_tref_cons, indexContents_tref_empty]
  all_goals try simp only [TRef.ofBuf_toBuf]
  all_goals try rfl

set_option maxHeartbeats 1000000 in
/-- The second layer's buffers are read and written as they should be. -/
theorem reads1 : Reads F lay1 := by
  constructor <;> intro V <;> dsimp only [get, lay1, preOps, condOps, tripOps] <;>
    after_reads_simp [unaryIndexed_result_read, binaryIndexed_result_read, indexContents_tref_cons, indexContents_tref_empty]
  all_goals try simp only [TRef.ofBuf_toBuf]
  all_goals try rfl

end Cert.ReferenceIdeal.Sub

end
-- ==== Proof.RefRun.lean ====
/- The run of the reference program: both layers, each a line of operations and then a counted loop of 512 time steps.
   The loop is followed once, for any layer whose buffers read as they should (`Reads`). -/
module

public import proofs.«01_k».proof.Proof.RefStep
public import Idealize.ShloMosaic.Lib.Scf.ExitTest
public import Idealize.ShloMosaic.Lib.Scf.Counter

@[expose] public section

set_option maxRecDepth 16384

noncomputable section

namespace Cert.ReferenceIdeal.Sub

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo (TRef seq after atTrip segsOf loopSeg Plain held launchContents)
open Idealize.ShloMosaic.Pipeline (CSeg Ticket PCfg ucRefs sub_ucRefs)
open Cert.ReferenceIdeal Cert.ReferenceIdeal.Gen

variable {F : FTy → Type} [FloatOps F]

/-! ## The recurrence -/

/-- The counter's word before step `n`. -/
def ctr (n : ℕ) : (⟨S_, .i32⟩ : BufTy).Contents (Elt F) := fun _ => Scf.iv 0#32 1#32 n

/-- Counting on by one. -/
theorem ctr_succ (n : ℕ) : addi (ctr (F := F) n) (constantI S_ 32 1#32) = ctr (F := F) (n + 1) :=
  funext fun _ => (Scf.iv_succ 0#32 1#32 n).symm

/-- The hidden and the cell state before step `n`, from zero. -/
def stateAt (X : Vec F S512x32x4096 .f32) (w : Vec F S1024x4096 .f32) : ℕ → Vec F S32x1024 .f32 × Vec F S32x1024 .f32
  | 0 => (zeroS, zeroS)
  | n + 1 =>
    let g := gates (rowAt X (ctr n)) w (stateAt X w n).1
    (hidNext g (stateAt X w n).2, cellNext g (stateAt X w n).2)

/-- The outputs before step `n`: the hidden states so far, each in its row. -/
def outAt (X : Vec F S512x32x4096 .f32) (w : Vec F S1024x4096 .f32) : ℕ → Vec F S512x32x1024 .f32
  | 0 => zeroO
  | n + 1 => putAt (outAt X w n) (stateAt X w (n + 1)).1 (ctr n)

/-- One layer as a function of its input sequence, its weights and its bias. -/
def layer (X : Vec F S512x32x1024 .f32) (wi wh : Vec F S4096x1024 .f32) (b : Vec F S4096 .f32) : Vec F S512x32x1024 .f32 :=
  outAt (preAll X wi b) (wT wh) 512

/-- What a layer's loop carries before step `n`. -/
structure At (L : Lay) (X : Vec F S512x32x4096 .f32) (w : Vec F S1024x4096 .f32) (n : ℕ) (V : Valuation τ sig (Elt F)) : Prop where
  at_x : get L.x V = X
  at_w : get L.w V = w
  at_k : get L.k V = ctr n
  at_h : get L.h V = (stateAt X w n).1
  at_c : get L.c V = (stateAt X w n).2
  at_o : get L.o V = outAt X w n

section Layer

variable {L : Lay} (R : Reads F L)
include R

/-- The operations before the loop leave what step 0 starts from. -/
theorem at_zero (V : Valuation τ sig (Elt F)) : At L (preAll (get L.xin V) (get L.wi V) (get L.bias V)) (wT (get L.wh V)) 0 (after (preOps L) V) where
  at_x := R.pre_x V
  at_w := R.pre_w V
  at_k := (R.pre_k V).trans (funext fun _ => (Scf.iv_zero 0#32 1#32).symm)
  at_h := R.pre_h V
  at_c := R.pre_c V
  at_o := R.pre_o V

/-- The test changes nothing that the loop carries. -/
theorem at_cond {X : Vec F S512x32x4096 .f32} {w : Vec F S1024x4096 .f32} {n : ℕ} {V : Valuation τ sig (Elt F)} (h : At L X w n V) :
    At L X w n (after (condOps L) V) where
  at_x := (R.cond_x V).trans h.at_x
  at_w := (R.cond_w V).trans h.at_w
  at_k := (R.cond_k V).trans h.at_k
  at_h := (R.cond_h V).trans h.at_h
  at_c := (R.cond_c V).trans h.at_c
  at_o := (R.cond_o V).trans h.at_o

/-- A time step takes the recurrence on by one. -/
theorem at_succ {X : Vec F S512x32x4096 .f32} {w : Vec F S1024x4096 .f32} {n : ℕ} {V : Valuation τ sig (Elt F)} (h : At L X w n V) :
    At L X w (n + 1) (after (tripOps L) V) where
  at_x := (R.trip_x V).trans h.at_x
  at_w := (R.trip_w V).trans h.at_w
  at_k := by rw [R.trip_k, h.at_k, ctr_succ]
  at_h := by rw [R.trip_h, h.at_x, h.at_w, h.at_k, h.at_h, h.at_c, stateAt]
  at_c := by rw [R.trip_c, h.at_x, h.at_w, h.at_k, h.at_h, h.at_c, stateAt]
  at_o := by rw [R.trip_o, h.at_x, h.at_w, h.at_k, h.at_h, h.at_c, h.at_o, outAt, stateAt]

/-- Before the test runs for the `n`-th time the loop carries the recurrence after `n` steps. -/
theorem at_trip {W₀ : Dev nD → Valuation τ sig (Elt F)} {X : Dev nD → Vec F S512x32x4096 .f32} {w : Dev nD → Vec F S1024x4096 .f32}
    (h : ∀ c, At L (X c) (w c) 0 (W₀ c)) (n : ℕ) (c : Dev nD) : At L (X c) (w c) n (atTrip (condOps L) [tripOps L] W₀ n c) := by
  induction n with
  | zero => exact h c
  | succ n ih => exact at_succ R (at_cond R ih)

end Layer

/-! ## The loop's test and the lines of operations, as the run needs them -/

/-- What is carried unchanged beside the buffers. -/
abbrev Rw (c : Dev nD) : sProp (MT nD τ sig Unit (Elt F) ℕ (Option PUnit) ℕ) := iprop(∃ W, owes (c : Thread nD τ) (0 : CellTallies nD τ sig Unit) W)

set_option backward.isDefEq.respectTransparency.types false in
/-- The test, run before step `n`, says whether `n` is below 512 and touches only its own buffers. -/
theorem cond_spec {L : Lay} (R : Reads F L) {W₀ : Dev nD → Valuation τ sig (Elt F)} {X : Dev nD → Vec F S512x32x4096 .f32} {w : Dev nD → Vec F S1024x4096 .f32}
    (h0 : ∀ c, At L (X c) (w c) 0 (W₀ c)) :
    StableHlo.LoopCond (Ix := Unit) (Name := ℕ) (U := Option PUnit) (Lvl := ℕ) pcfgs defs₀ Variants.none (loops (F := F)) Rw (condProg L) (condOps L) [tripOps L] W₀ 512 := by
  intro n hn c bd
  have hk := (at_trip R h0 n c).at_k
  have ht := R.cond_test (atTrip (condOps L) [tripOps L] W₀ n c)
  rw [hk] at ht
  unfold condProg
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    have hv := congrFun ht HostLoop.idx0
    have he := congrArg L.test.ofBuf (HloOp.result_of_mem (StableHlo.TRef.binary (τ := τ) (Val := Elt F) L.k L.bound L.test (cmpi .slt))
      ((StableHlo.TRef.nullary L.bound (constantI S_ 32 512#32)).result (atTrip (condOps L) [tripOps L] W₀ n c)) (Finset.mem_singleton_self _))
    refine (Eq.congr_left ((congrFun he HostLoop.idx0).symm.trans hv)).trans ?_
    exact Scf.cmpi_slt_iv_ub_iff (lb := 0#32) (ub := 512#32) (st := 1#32) main_while0_ok hn
  isplitl [Hb]; · iexact Hb
  isplitl [Hh]; · iexact Hh
  iexact HR

set_option maxHeartbeats 1000000 in
/-- The operations before the loop touch only the buffers of tensor values. -/
theorem pre_sub (L : Lay) : (preOps (F := F) L).Forall fun op => op.bufs ⊆ StableHlo.tcRefs τ sig :=
  ⟨StableHlo.binary_bufs_sub .., StableHlo.unary_bufs_sub .., StableHlo.unary_bufs_sub .., StableHlo.binary_bufs_sub ..,
   StableHlo.unary_bufs_sub .., StableHlo.nullary_bufs_sub .., StableHlo.unary_bufs_sub .., StableHlo.nullary_bufs_sub ..,
   StableHlo.unary_bufs_sub .., StableHlo.nullary_bufs_sub .., StableHlo.unary_bufs_sub .., StableHlo.nullary_bufs_sub ..,
   StableHlo.unary_bufs_sub .., StableHlo.unary_bufs_sub .., StableHlo.unary_bufs_sub .., StableHlo.unary_bufs_sub ..,
   StableHlo.unary_bufs_sub .., StableHlo.unary_bufs_sub ..⟩
set_option maxHeartbeats 1000000 in
/-- So do a time step's. -/
theorem trip_sub (L : Lay) : (tripOps (F := F) L).Forall fun op => op.bufs ⊆ StableHlo.tcRefs τ sig :=
  ⟨StableHlo.nullary_bufs_sub .., StableHlo.nullary_bufs_sub .., StableHlo.unaryIndexed_bufs_sub .., StableHlo.reshape_bufs_sub ..,
   StableHlo.binary_bufs_sub .., StableHlo.binary_bufs_sub .., StableHlo.unary_bufs_sub .., StableHlo.unary_bufs_sub ..,
   StableHlo.nullary_bufs_sub .., StableHlo.unary_bufs_sub .., StableHlo.binary_bufs_sub .., StableHlo.nullary_bufs_sub ..,
   StableHlo.unary_bufs_sub .., StableHlo.binary_bufs_sub .., StableHlo.unary_bufs_sub .., StableHlo.unary_bufs_sub ..,
   StableHlo.unary_bufs_sub .., StableHlo.unary_bufs_sub .., StableHlo.binary_bufs_sub .., StableHlo.binary_bufs_sub ..,
   StableHlo.binary_bufs_sub .., StableHlo.unary_bufs_sub .., StableHlo.unary_bufs_sub .., StableHlo.nullary_bufs_sub ..,
   StableHlo.unary_bufs_sub .., StableHlo.binary_bufs_sub .., StableHlo.nullary_bufs_sub .., StableHlo.unary_bufs_sub ..,
   StableHlo.binary_bufs_sub .., StableHlo.binary_bufs_sub .., StableHlo.unary_bufs_sub .., StableHlo.nullary_bufs_sub ..,
   StableHlo.nullary_bufs_sub .., StableHlo.binaryIndexed_bufs_sub .., StableHlo.nullary_bufs_sub .., StableHlo.binary_bufs_sub ..,
   StableHlo.unary_bufs_sub .., StableHlo.unary_bufs_sub .., StableHlo.unary_bufs_sub .., StableHlo.unary_bufs_sub ..⟩

/-- The operations before the loop, as a plain line. -/
theorem pre_plain (L : Lay) : Plain [preOps (F := F) L] :=
  .cons (pre_sub L) .nil (List.forall_iff_forall_mem.mp (StableHlo.forall_fresh_of_map rfl))
/-- A time step's operations, as a plain line. -/
theorem trip_plain (L : Lay) : Plain [tripOps (F := F) L] :=
  .cons (trip_sub L) .nil (List.forall_iff_forall_mem.mp (StableHlo.forall_fresh_of_map rfl))

/-! ## What a layer writes -/

/-- What the operations before the loop write. -/
abbrev preWrites (L : Lay) : List (Ref sig .tc) :=
  [L.prod.ref, L.b1.ref, L.b2.ref, L.sum.ref, L.wt.ref, L.zh.ref, L.h0.ref, L.zc.ref, L.c0.ref, L.zo.ref, L.o0.ref, L.k0.ref,
   L.x.ref, L.w.ref, L.k.ref, L.h.ref, L.c.ref, L.o.ref]
/-- What the test writes. -/
abbrev condWrites (L : Lay) : List (Ref sig .tc) :=
  [L.bound.ref, L.test.ref]
/-- What a time step writes. -/
abbrev tripWrites (L : Lay) : List (Ref sig .tc) :=
  [L.z1.ref, L.z2.ref, L.cut.ref, L.row.ref, L.rmm.ref, L.act.ref, L.neg.ref, L.ex.ref, L.one1.ref, L.ones1.ref, L.den.ref,
   L.one2.ref, L.ones2.ref, L.gate.ref, L.gi.ref, L.go.ref, L.gz.ref, L.gf.ref, L.cf.ref, L.cz.ref, L.cnew.ref, L.cneg.ref,
   L.cex.ref, L.one3.ref, L.ones3.ref, L.cden.ref, L.one4.ref, L.ones4.ref, L.csig.ref, L.hnew.ref, L.put.ref, L.z3.ref, L.z4.ref,
   L.onew.ref, L.kone.ref, L.knew.ref, L.k.ref, L.h.ref, L.c.ref, L.o.ref]

/-- A buffer that a layer does not write is after the layer as before. -/
theorem layer_keeps (L : Lay) {r : Ref sig .tc} (h : r ∉ preWrites L ++ condWrites L ++ tripWrites L) (V : Dev nD → Valuation τ sig (Elt F)) (c : Dev nD) (n : ℕ) :
    after (condOps L) (atTrip (condOps L) [tripOps L] (fun c => after (preOps L) (V c)) n c) (Proc.devRef .tc r) = V c (Proc.devRef .tc r) := by
  simp only [List.mem_append, not_or] at h
  have hc : ∀ V : Valuation τ sig (Elt F), after (condOps L) V (Proc.devRef .tc r) = V (Proc.devRef .tc r) := fun V =>
    StableHlo.after_of_writes_sub (W := condWrites L) _ V (StableHlo.forall_writes_sub_of_map rfl) h.1.2
  have ht : ∀ V : Valuation τ sig (Elt F), after (tripOps L) V (Proc.devRef .tc r) = V (Proc.devRef .tc r) := fun V =>
    StableHlo.after_of_writes_sub (W := tripWrites L) _ V (StableHlo.forall_writes_sub_of_map rfl) h.2
  have hp : after (preOps L) (V c) (Proc.devRef .tc r) = V c (Proc.devRef .tc r) :=
    StableHlo.after_of_writes_sub (W := preWrites L) _ _ (StableHlo.forall_writes_sub_of_map rfl) h.1.1
  rw [hc]
  induction n with
  | zero => exact hp
  | succ n ih => exact (ht _).trans ((hc _).trans ih)

/-! ## The run -/

/-- The program has no kernel, so no ticket is ever drawn. -/
abbrev noAdm : (p : Fin 0) → (pcfgs (F := F) p).Adm := fun p => p.elim0
/-- There is no ticket. -/
abbrev noTk : Fin 0 → Ticket (Ix := Unit) (Name := ℕ) (U := Option PUnit) (Lvl := ℕ) (nD := nD) (τ := τ) (pcfgs (F := F)) noAdm := fun j => j.elim0
/-- A run of host operations waits at no level. -/
abbrev noL : GSem nD τ sig → Finset Unit := fun _ => ∅
/-- The level of every wait. -/
abbrev noLv : GSem nD τ sig → Unit → ℕ := fun _ _ => 0

section Run

variable (m : (ℓ : Loc nD τ sig) → Buf (Elt F) ℓ)

/-- Every buffer when the first layer's loop begins. -/
abbrev V1 (c : Dev nD) : Valuation τ sig (Elt F) := after (preOps lay0) (launchContents m c)
/-- Every buffer after the first layer. -/
abbrev V2 (c : Dev nD) : Valuation τ sig (Elt F) := after (condOps lay0) (atTrip (condOps lay0) [tripOps lay0] (V1 m) 512 c)
/-- Every buffer when the second layer's loop begins. -/
abbrev V3 (c : Dev nD) : Valuation τ sig (Elt F) := after (preOps lay1) (V2 m c)
/-- Every buffer at the end. -/
abbrev V4 (c : Dev nD) : Valuation τ sig (Elt F) := after (condOps lay1) (atTrip (condOps lay1) [tripOps lay1] (V3 m) 512 c)

/-- The program in four pieces: operations, loop, operations, loop. -/
def pieces : List (CSeg (pcfgs (F := F)) noAdm defs₀ Variants.none noL noLv loops noTk) :=
  segsOf _ _ _ _ _ _ _ _ Rw [preOps lay0] (pre_plain lay0) (launchContents m)
    ++ (loopSeg _ _ _ _ _ _ _ _ 0 main_while0_cond main_while0_body rfl (condOps lay0) [tripOps lay0] (trip_plain lay0) body0_eq 512 (V1 m) Rw
        (cond0_eq (F := F) ▸ cond_spec reads0 fun c => at_zero reads0 (launchContents m c))
      :: (segsOf _ _ _ _ _ _ _ _ Rw [preOps lay1] (pre_plain lay1) (V2 m)
        ++ [loopSeg _ _ _ _ _ _ _ _ 1 main_while1_cond main_while1_body rfl (condOps lay1) [tripOps lay1] (trip_plain lay1) body1_eq 512 (V3 m) Rw
            (cond1_eq (F := F) ▸ cond_spec reads1 fun c => at_zero reads1 (V2 m c))]))

/-- The pieces are the program. -/
theorem pieces_prog : (pieces m).map CSeg.prog = [seq (preOps lay0), HostLoop.enter 0, seq (preOps lay1), HostLoop.enter 1] := by
  unfold pieces
  rw [List.map_append, List.map_cons, List.map_append, StableHlo.segsOf_prog, StableHlo.segsOf_prog]
  rfl

/-- Each piece begins where the one before it ends. -/
theorem pieces_chain : CSeg.Chains (fun c => iprop(held (c : Thread nD τ) (ucRefs τ sig) (launchContents m c) ∗ Rw c)) (pieces m)
    (fun c => iprop(held (c : Thread nD τ) (ucRefs τ sig) (V4 m c) ∗ ∃ W, owes (c : Thread nD τ) (0 : CellTallies nD τ sig Unit) W)) := by
  unfold pieces
  exact CSeg.Chains.append (StableHlo.segsOf_chains _ _ _ _ _ _ _ _ Rw [preOps lay0] (pre_plain lay0) _)
    ⟨fun _ => .rfl, CSeg.Chains.append (StableHlo.segsOf_chains _ _ _ _ _ _ _ _ Rw [preOps lay1] (pre_plain lay1) _) ⟨fun _ => .rfl, fun _ => .rfl⟩⟩

/-- The program has no semaphore that lives across it. -/
theorem noSems : ∀ sm : SemLoc sig, sm.isScoped .tc = true := by decide

/-- Every run ends, with the buffers as the two layers leave them and every semaphore at zero. -/
theorem run_main [∀ e, Nonempty (Elt F e)] (ρ : Dev nD → PrngReg) :
    θ_run (defs (F := F)) (onTc (τ := τ) (main (F := F))) ⟨m, fun _ => 0, ρ⟩
      (fun r => (∀ (c : Dev nD) (b : Ref sig .tc), (Proc.devRef .tc b : DevRef τ sig).isScoped = false →
        r.2.mem ((c.tc : Thread nD τ).loc b) = V4 m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm (fun k => k.1.elim0) defs₀ Variants.none noL noLv loops noTk m ρ main (pieces m)
    (fun c Q => by
      rw [main_eq c]
      show wp _ _ _ (Pipeline.chain ((pieces m).map CSeg.prog)) Q ⊢ _
      rw [pieces_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => BI.emp) from by rw [BI.bigSep_emp_const])
        iempintro)
    (T₀ := fun c => iprop(held (c : Thread nD τ) (ucRefs τ sig) (launchContents m c) ∗ Rw c))
    (Tₙ := fun c => held (c : Thread nD τ) (ucRefs τ sig) (V4 m c))
    (hch := pieces_chain m)
    (hinit := by
      refine Pipeline.initEach noL noLv fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = V4 m c b)
    (hfin := fun c s' => by
      unfold held
      iintro ⟨Hh, HSI⟩
      ihave Hr := (pointsTo_read_all (ucRefs τ sig) (fun b => ((c : Dev nD), b)) (fun b => V4 m c b) s') $$ [Hh HSI]
      · isplitl [Hh] <;> iassumption
      icases Hr with ⟨%h, HSI⟩
      imodintro
      isplitr; · ipureintro; exact h
      iexact HSI)
    (hQ := fun s h hs => ⟨fun c b hb => h c _ (StableHlo.devRef_mem_ucRefs b hb), funext fun g' => hs g' (.inr (noSems g'.2))⟩)

end Run

end Cert.ReferenceIdeal.Sub

end
-- ==== Proof.RefEnds.lean ====
/- What the reference program leaves: its result is one layer over the other, and its arguments are unchanged. -/
module

public import proofs.«01_k».proof.Proof.RefRun

@[expose] public section

set_option maxRecDepth 16384

noncomputable section

namespace Cert.ReferenceIdeal.Sub

open Idealize.ShloMosaic Idealize.ShloMosaic.TcCoe Idealize.SL.Sem
open Idealize.ShloMosaic.StableHlo (after atTrip launchContents)
open Cert.ReferenceIdeal Cert.ReferenceIdeal.Gen

variable {F : FTy → Type} [FloatOps F]
variable (m : (ℓ : Loc nD τ sig) → Buf (Elt F) ℓ)

/-- A buffer that neither layer writes ends as it was. -/
theorem kept {r : Ref sig .tc} (h0 : r ∉ preWrites lay0 ++ condWrites lay0 ++ tripWrites lay0) (h1 : r ∉ preWrites lay1 ++ condWrites lay1 ++ tripWrites lay1)
    (c : Dev nD) : V4 m c (Proc.devRef .tc r) = m ((c.tc : Thread nD τ).loc r) :=
  (layer_keeps lay1 h1 (V2 m) c 512).trans (layer_keeps lay0 h0 (launchContents m) c 512)

/-- A layer's output, from the buffers it finds. -/
theorem layer_out {L : Lay} (R : Reads F L) (V : Dev nD → Valuation τ sig (Elt F)) (c : Dev nD) :
    get L.o (after (condOps L) (atTrip (condOps L) [tripOps L] (fun c => after (preOps L) (V c)) 512 c))
      = layer (get L.xin (V c)) (get L.wi (V c)) (get L.wh (V c)) (get L.bias (V c)) :=
  (at_cond R (at_trip R (fun c => at_zero R (V c)) 512 c)).at_o

/-- The first layer's output buffer is read as it stands. -/
theorem get_o0 (V : Valuation τ sig (Elt F)) : get lay0.o V = V (Proc.devRef .tc main_v8_5) := rfl
/-- So is the second's. -/
theorem get_o1 (V : Valuation τ sig (Elt F)) : get lay1.o V = V (Proc.devRef .tc main_v17_5) := rfl
/-- So is what the second layer finds. -/
theorem layer_in1 (V : Valuation τ sig (Elt F)) : layer (get lay1.xin V) (get lay1.wi V) (get lay1.wh V) (get lay1.bias V)
    = layer (V (Proc.devRef .tc main_v8_5)) (V (Proc.devRef .tc main_arg4)) (V (Proc.devRef .tc main_arg5)) (V (Proc.devRef .tc main_arg6)) := rfl

/-- What the first layer leaves as its output. -/
theorem first_out (c : Dev nD) : V2 m c (Proc.devRef .tc main_v8_5)
    = layer (m ((c.tc : Thread nD τ).loc main_arg0)) (m ((c.tc : Thread nD τ).loc main_arg1)) (m ((c.tc : Thread nD τ).loc main_arg2)) (m ((c.tc : Thread nD τ).loc main_arg3)) :=
  (get_o0 (V2 m c)).symm.trans (layer_out reads0 (launchContents m) c)

/-- What the second layer leaves as its output, from the buffers it finds. -/
theorem second_out (c : Dev nD) : V4 m c (Proc.devRef .tc main_v17_5)
    = layer (V2 m c (Proc.devRef .tc main_v8_5)) (V2 m c (Proc.devRef .tc main_arg4)) (V2 m c (Proc.devRef .tc main_arg5)) (V2 m c (Proc.devRef .tc main_arg6)) :=
  (get_o1 (V4 m c)).symm.trans ((layer_out reads1 (V2 m) c).trans (layer_in1 (V2 m c)))

/-- A weight or bias that the first layer does not write, when the second begins. -/
theorem first_keeps {r : Ref sig .tc} (h : r ∉ preWrites lay0 ++ condWrites lay0 ++ tripWrites lay0) (c : Dev nD) :
    V2 m c (Proc.devRef .tc r) = m ((c.tc : Thread nD τ).loc r) := layer_keeps lay0 h (launchContents m) c 512

/-- The result: the second layer over the first. -/
theorem result_out (c : Dev nD) : V4 m c (Proc.devRef .tc main_v17_5)
    = layer (layer (m ((c.tc : Thread nD τ).loc main_arg0)) (m ((c.tc : Thread nD τ).loc main_arg1)) (m ((c.tc : Thread nD τ).loc main_arg2)) (m ((c.tc : Thread nD τ).loc main_arg3)))
        (m ((c.tc : Thread nD τ).loc main_arg4)) (m ((c.tc : Thread nD τ).loc main_arg5)) (m ((c.tc : Thread nD τ).loc main_arg6)) :=
  (second_out m c).trans (congr (congr (congr (congrArg layer (first_out m c)) (first_keeps m (by decide) c)) (first_keeps m (by decide) c)) (first_keeps m (by decide) c))

/-- Every run ends with the result as computed, the arguments unchanged and every semaphore at zero. -/
theorem run_values [∀ e, Nonempty (Elt F e)] (ρ : Dev nD → PrngReg) :
    θ_run (defs (F := F)) (onTc (τ := τ) (main (F := F))) ⟨m, fun _ => 0, ρ⟩ (fun r => (∀ c : Dev nD,
      r.2.mem ((c.tc : Thread nD τ).loc main_v17_5)
        = layer (layer (m ((c.tc : Thread nD τ).loc main_arg0)) (m ((c.tc : Thread nD τ).loc main_arg1)) (m ((c.tc : Thread nD τ).loc main_arg2)) (m ((c.tc : Thread nD τ).loc main_arg3)))
            (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) := by
  refine (θ_run defs _ _).mono (fun r h => ⟨fun c => ?_, h.2⟩) (run_main m ρ)
  have k := fun (b : Ref sig .tc) (hb : (Proc.devRef .tc b : DevRef τ sig).isScoped = false) h0 h1 => (h.1 c b hb).trans (kept m (r := b) h0 h1 c)
  exact ⟨(h.1 c _ rfl).trans (result_out m c), k _ rfl (by decide) (by decide), k _ rfl (by decide) (by decide), k _ rfl (by decide) (by decide),
    k _ rfl (by decide) (by decide), k _ rfl (by decide) (by decide), k _ rfl (by decide) (by decide), k _ rfl (by decide) (by decide)⟩

end Cert.ReferenceIdeal.Sub

end
-- ==== Proof.Math.lean ====
/- The two programs compute the same function over the extended reals: the kernel's chunks of sixteen steps, laid end to end,
   are the reference's 512 steps. -/
module

public import proofs.«01_k».proof.Proof.Chain
public import proofs.«01_k».proof.Proof.RefRun
public import Idealize.ShloMosaic.Lib.Pipeline.ValueKit

@[expose] public section

set_option maxRecDepth 16384

noncomputable section

namespace Cert.Match

open Idealize.ShloMosaic Idealize.ShloMosaic.TcCoe
open Cert.KernelIdeal Cert.KernelIdeal.Gen Cert.KernelIdeal.Sub
open Cert.ReferenceIdeal.Sub (gates preAll hidNext cellNext rowAt putAt ctr startAt stateAt outAt layer sigm ones wT zeroS zeroO)
open scoped BigOperators

/-! ### Constants and the scale -/

/-- The factor the kernel's recurrent weights carry. -/
theorem scale_up : Ideal.ofBits .f32 0x42000000#32 = ((32 : ℝ) : EReal) := by
  simp [Ideal.ofBits, Ideal.ieee, -EReal.coe_mul]; norm_num

/-- The factor the kernel takes off again. -/
theorem scale_down : Ideal.ofBits .f32 0x3D000000#32 = (((1 : ℝ) / 32 : ℝ) : EReal) := by
  simp [Ideal.ofBits, Ideal.ieee, -EReal.coe_mul]; norm_num

/-- A positive real factor comes out of a sum of extended reals. -/
theorem sum_scaled {ι : Type} (s : Finset ι) (r : ℝ) (hr : 0 ≤ r) (f : ι → EReal) : ∑ x ∈ s, (r : EReal) * f x = (r : EReal) * ∑ x ∈ s, f x := by
  classical
  induction s using Finset.induction_on with
  | empty => simp
  | insert a s ha ih =>
    rw [Finset.sum_insert ha, Finset.sum_insert ha, ih,
      EReal.left_distrib_of_nonneg_of_ne_top (EReal.coe_nonneg.2 hr) (EReal.coe_ne_top r)]

/-- Scaling one side of every product by 32 and the sum by 1/32 changes nothing. -/
theorem sum_unscaled {ι : Type} (s : Finset ι) (f g : ι → EReal) :
    (∑ x ∈ s, f x * (g x * Ideal.ofBits .f32 0x42000000#32)) * Ideal.ofBits .f32 0x3D000000#32 = ∑ x ∈ s, f x * g x := by
  rw [scale_up, scale_down, Finset.sum_congr rfl fun x _ => show f x * (g x * ((32 : ℝ) : EReal)) = ((32 : ℝ) : EReal) * (f x * g x) by
    rw [← mul_assoc, mul_comm], sum_scaled s 32 (by norm_num), mul_comm, ← mul_assoc, ← EReal.coe_mul]
  norm_num

/-! ### One step -/

/-- The first layer's gates. -/
theorem gatesA (p : FVec Ideal S32x4096 .f32) (h : FVec Ideal S32x1024 .f32) (w8 : FVec Ideal S1024x4096 .fp8e4m3) (w : FVec Ideal S1024x4096 .f32)
    (hw : ∀ (i : Fin 1024) (j : Fin 4096), (w8 (ix2 i j) : EReal) = (w (ix2 i j) : EReal) * Ideal.ofBits .f32 0x42000000#32) :
    k0_pay7 (F := Ideal) p h w8 = gates (F := Ideal) p w h := by
  funext y
  idx_vars y
  pointwise [k0_pay7, gates, sigm, ones]
  rw [Finset.sum_congr rfl fun x _ => congrArg (h (ix2 y0 x) * ·) (hw x y1), sum_unscaled]
  rfl

/-- The second layer's gates. -/
theorem gatesB (q : FVec Ideal S1x32x4096 .bf16) (p : FVec Ideal S32x4096 .f32) (h : FVec Ideal S32x1024 .f32) (wb : FVec Ideal S1024x4096 .bf16)
    (w : FVec Ideal S1024x4096 .f32) (hw : ∀ (i : Fin 1024) (j : Fin 4096), (wb (ix2 i j) : EReal) = (w (ix2 i j) : EReal))
    (hq : ∀ (b : Fin 32) (e : Fin 4096), (q (ix3 (0 : Fin 1) b e) : EReal) = (p (ix2 b e) : EReal)) :
    k0_pay13 (F := Ideal) q h wb = gates (F := Ideal) p w h := by
  funext y
  idx_vars y
  pointwise [k0_pay13, gates, sigm, ones]
  rw [Finset.sum_congr rfl fun x _ => congrArg (h (ix2 y0 x) * ·) (hw x y1), hq y0 y1]
  rfl

/-- The first layer's new cell state is the reference's, given the gates. -/
theorem cellA (p : FVec Ideal S32x4096 .f32) (h : FVec Ideal S32x1024 .f32) (w8 : FVec Ideal S1024x4096 .fp8e4m3) (c : FVec Ideal S32x1024 .f32) :
    k0_pay10 (F := Ideal) p h w8 c = cellNext (F := Ideal) (k0_pay7 (F := Ideal) p h w8) c := by
  funext y
  idx_vars y
  pointwise [k0_pay10, k0_pay8, cellNext]

/-- The first layer's new hidden state is the reference's, given the gates. -/
theorem hiddenA (p : FVec Ideal S32x4096 .f32) (h : FVec Ideal S32x1024 .f32) (w8 : FVec Ideal S1024x4096 .fp8e4m3) (c : FVec Ideal S32x1024 .f32) :
    k0_pay11 (F := Ideal) p h w8 c = hidNext (F := Ideal) (k0_pay7 (F := Ideal) p h w8) c := by
  funext y
  idx_vars y
  pointwise [k0_pay11, k0_pay9, k0_pay8, hidNext, cellNext, sigm, ones]
  rfl

/-- The second layer's new cell state is the reference's, given the gates. -/
theorem cellB (q : FVec Ideal S1x32x4096 .bf16) (h : FVec Ideal S32x1024 .f32) (wb : FVec Ideal S1024x4096 .bf16) (c : FVec Ideal S32x1024 .f32) :
    k0_pay16 (F := Ideal) q h wb c = cellNext (F := Ideal) (k0_pay13 (F := Ideal) q h wb) c := by
  funext y
  idx_vars y
  pointwise [k0_pay16, k0_pay14, cellNext]

/-- The second layer's new hidden state is the reference's, given the gates. -/
theorem hiddenB (q : FVec Ideal S1x32x4096 .bf16) (h : FVec Ideal S32x1024 .f32) (wb : FVec Ideal S1024x4096 .bf16) (c : FVec Ideal S32x1024 .f32) :
    k0_pay17 (F := Ideal) q h wb c = hidNext (F := Ideal) (k0_pay13 (F := Ideal) q h wb) c := by
  funext y
  idx_vars y
  pointwise [k0_pay17, k0_pay15, k0_pay14, hidNext, cellNext, sigm, ones]
  rfl

/-- What a first-layer step stores for the second layer is its hidden state. -/
theorem storedA (p : FVec Ideal S32x4096 .f32) (h : FVec Ideal S32x1024 .f32) (w8 : FVec Ideal S1024x4096 .fp8e4m3) (c : FVec Ideal S32x1024 .f32)
    (b : Fin 32) (e : Fin 1024) : (k0_pay12 (F := Ideal) p h w8 c (ix2 b e) : EReal) = (k0_pay11 (F := Ideal) p h w8 c (ix2 b e) : EReal) := by
  pointwise [k0_pay12, k0_pay11]

/-- What a second-layer step stores in the output block is its hidden state. -/
theorem storedB (q : FVec Ideal S1x32x4096 .bf16) (h : FVec Ideal S32x1024 .f32) (wb : FVec Ideal S1024x4096 .bf16) (c : FVec Ideal S32x1024 .f32)
    (b : Fin 32) (e : Fin 1024) : k0_pay18 (F := Ideal) q h wb c (ix3 (0 : Fin 1) b e) = k0_pay17 (F := Ideal) q h wb c (ix2 b e) := by
  pointwise [k0_pay18, k0_pay17]

/-- Both start from the zero state. -/
theorem zeros : (k0_pay2 (F := Ideal), k0_pay3 (F := Ideal)) = (zeroS (F := Ideal), zeroS (F := Ideal)) := by
  refine Prod.ext (funext fun y => ?_) (funext fun y => ?_) <;> idx_vars y <;> pointwise [k0_pay2, k0_pay3, zeroS]

/-! ### Rows of the reference's arrays -/

/-- The start of row `k`. -/
theorem start_row (k : ℕ) (hk : k < 512) : (startAt (F := Ideal) (ctr (F := Ideal) k)) = ![(k : ℤ), 0, 0] := by
  have h0 : (Scf.iv 0#32 1#32 k).toInt = (k : ℤ) := by
    have e : Scf.iv 0#32 1#32 k = BitVec.ofNat 32 k := by simp [Scf.iv]
    rw [e, BitVec.toInt_eq_toNat_of_lt (by rw [BitVec.toNat_ofNat]; omega), BitVec.toNat_ofNat]
    omega
  funext a
  match a with
  | 0 => exact h0
  | 1 => rfl
  | 2 => rfl

/-- Row `k` of the inputs lies inside: its start is not moved. -/
theorem clamp_pre (k : ℕ) (hk : k < 512) (h : Cert.ReferenceIdeal.S1x32x4096.rank = Cert.ReferenceIdeal.S512x32x4096.rank) :
    Host.clampedStart Cert.ReferenceIdeal.S512x32x4096 Cert.ReferenceIdeal.S1x32x4096 h (startAt (F := Ideal) (ctr k)) (0 : Fin 3) = k
    ∧ Host.clampedStart Cert.ReferenceIdeal.S512x32x4096 Cert.ReferenceIdeal.S1x32x4096 h (startAt (F := Ideal) (ctr k)) (1 : Fin 3) = 0
    ∧ Host.clampedStart Cert.ReferenceIdeal.S512x32x4096 Cert.ReferenceIdeal.S1x32x4096 h (startAt (F := Ideal) (ctr k)) (2 : Fin 3) = 0 :=
  ⟨Host.clampedStart_of_le h _ (0 : Fin 3) k (congrFun (start_row k hk) 0) (by show k + 1 ≤ 512; omega),
    Host.clampedStart_of_le h _ (1 : Fin 3) 0 (congrFun (start_row k hk) 1) (by show 0 + 32 ≤ 32; omega),
    Host.clampedStart_of_le h _ (2 : Fin 3) 0 (congrFun (start_row k hk) 2) (by show 0 + 4096 ≤ 4096; omega)⟩

/-- Row `k` of the outputs lies inside. -/
theorem clamp_out (k : ℕ) (hk : k < 512) (h : Cert.ReferenceIdeal.S1x32x1024.rank = Cert.ReferenceIdeal.S512x32x1024.rank) :
    Host.clampedStart Cert.ReferenceIdeal.S512x32x1024 Cert.ReferenceIdeal.S1x32x1024 h (startAt (F := Ideal) (ctr k)) (0 : Fin 3) = k
    ∧ Host.clampedStart Cert.ReferenceIdeal.S512x32x1024 Cert.ReferenceIdeal.S1x32x1024 h (startAt (F := Ideal) (ctr k)) (1 : Fin 3) = 0
    ∧ Host.clampedStart Cert.ReferenceIdeal.S512x32x1024 Cert.ReferenceIdeal.S1x32x1024 h (startAt (F := Ideal) (ctr k)) (2 : Fin 3) = 0 :=
  ⟨Host.clampedStart_of_le h _ (0 : Fin 3) k (congrFun (start_row k hk) 0) (by show k + 1 ≤ 512; omega),
    Host.clampedStart_of_le h _ (1 : Fin 3) 0 (congrFun (start_row k hk) 1) (by show 0 + 32 ≤ 32; omega),
    Host.clampedStart_of_le h _ (2 : Fin 3) 0 (congrFun (start_row k hk) 2) (by show 0 + 1024 ≤ 1024; omega)⟩

/-- The inputs of step `k` are row `k`. -/
theorem row_at (X : FVec Ideal Cert.ReferenceIdeal.S512x32x4096 .f32) (k : ℕ) (hk : k < 512) (b : Fin 32) (e : Fin 4096) :
    rowAt (F := Ideal) X (ctr k) (ix2 b e) = X (ix3 ⟨k, hk⟩ b e) := by
  obtain ⟨c0, c1, c2⟩ := clamp_pre k hk rfl
  pointwise [rowAt]
  exact congrArg X ((ix3_inj ..).2 ⟨Fin.ext c0, Fin.ext ((congrArg (· + b.val) c1).trans (Nat.zero_add _)),
    Fin.ext ((congrArg (· + e.val) c2).trans (Nat.zero_add _))⟩)

/-- Writing row `k` leaves the others. -/
theorem put_at (o : FVec Ideal Cert.ReferenceIdeal.S512x32x1024 .f32) (h : FVec Ideal S32x1024 .f32) (k : ℕ) (hk : k < 512) (t : Fin 512)
    (b : Fin 32) (e : Fin 1024) : putAt (F := Ideal) o h (ctr k) (ix3 t b e) = if t.val = k then h (ix2 b e) else o (ix3 t b e) := by
  obtain ⟨c0, c1, c2⟩ := clamp_out k hk rfl
  pointwise [putAt]
  by_cases h0 : t.val = k
  · rw [if_pos h0, dif_pos ⟨⟨by omega, by omega⟩, by omega, by omega⟩]
    exact congrArg h ((ix2_inj ..).2 ⟨Fin.ext ((congrArg (b.val - ·) c1).trans (Nat.sub_zero _)),
      Fin.ext ((congrArg (e.val - ·) c2).trans (Nat.sub_zero _))⟩)
  · rw [if_neg h0, dif_neg fun hin => h0 (by omega)]

/-- The outputs before step `n`: every earlier row holds the hidden state of its step. -/
theorem out_at (X : FVec Ideal Cert.ReferenceIdeal.S512x32x4096 .f32) (w : FVec Ideal S1024x4096 .f32) (n : ℕ) (hn : n ≤ 512) (t : Fin 512) (ht : t.val < n)
    (b : Fin 32) (e : Fin 1024) : outAt (F := Ideal) X w n (ix3 t b e) = (stateAt (F := Ideal) X w (t.val + 1)).1 (ix2 b e) := by
  induction n with
  | zero => omega
  | succ n ih =>
    refine (put_at _ _ n (by omega) t b e).trans ?_
    by_cases h : t.val = n
    · rw [if_pos h, h]
    · rw [if_neg h]
      exact ih (by omega) (by omega)

/-- A layer's output at step `t`. -/
theorem layer_at (X : FVec Ideal Cert.ReferenceIdeal.S512x32x1024 .f32) (wi wh : FVec Ideal Cert.ReferenceIdeal.S4096x1024 .f32)
    (bb : FVec Ideal Cert.ReferenceIdeal.S4096 .f32) (t : Fin 512) (b : Fin 32) (e : Fin 1024) :
    layer (F := Ideal) X wi wh bb (ix3 t b e) = (stateAt (F := Ideal) (preAll X wi bb) (wT wh) (t.val + 1)).1 (ix2 b e) :=
  out_at _ _ 512 le_rfl t t.isLt b e

/-! ### A chunk of steps -/

/-- First layer: from the reference's states before step `a`, the kernel's `k` steps lead to the reference's before step `a + k`. -/
theorem seqA_eq (X : FVec Ideal Cert.ReferenceIdeal.S512x32x4096 .f32) (w : FVec Ideal S1024x4096 .f32) (w8 : FVec Ideal S1024x4096 .fp8e4m3)
    (hw : ∀ (i : Fin 1024) (j : Fin 4096), (w8 (ix2 i j) : EReal) = (w (ix2 i j) : EReal) * Ideal.ofBits .f32 0x42000000#32)
    (p : ℕ → FVec Ideal S32x4096 .f32) (a : ℕ) (hp : ∀ k, k < 16 → p k = rowAt (F := Ideal) X (ctr (a + k))) (k : ℕ) (hk : k ≤ 16) :
    seqA (F := Ideal) w8 p (stateAt (F := Ideal) X w a) k = stateAt (F := Ideal) X w (a + k) := by
  induction k with
  | zero => rfl
  | succ k ih =>
    have ih := ih (by omega)
    refine Prod.ext ?_ ?_
    · refine (hiddenA _ _ _ _).trans ?_
      rw [gatesA _ _ _ w hw, ih, hp k (by omega)]
      rfl
    · refine (cellA _ _ _ _).trans ?_
      rw [gatesA _ _ _ w hw, ih, hp k (by omega)]
      rfl

/-- The second layer's in the same way. -/
theorem seqB_eq (X : FVec Ideal Cert.ReferenceIdeal.S512x32x4096 .f32) (w : FVec Ideal S1024x4096 .f32) (wb : FVec Ideal S1024x4096 .bf16)
    (hw : ∀ (i : Fin 1024) (j : Fin 4096), (wb (ix2 i j) : EReal) = (w (ix2 i j) : EReal))
    (q : ℕ → FVec Ideal S1x32x4096 .bf16) (a : ℕ)
    (hq : ∀ k, k < 16 → ∀ (b : Fin 32) (e : Fin 4096), (q k (ix3 (0 : Fin 1) b e) : EReal) = (rowAt (F := Ideal) X (ctr (a + k)) (ix2 b e) : EReal))
    (k : ℕ) (hk : k ≤ 16) :
    seqB (F := Ideal) wb q (stateAt (F := Ideal) X w a) k = stateAt (F := Ideal) X w (a + k) := by
  induction k with
  | zero => rfl
  | succ k ih =>
    have ih := ih (by omega)
    refine Prod.ext ?_ ?_
    · refine (hiddenB _ _ _ _).trans ?_
      rw [gatesB _ _ _ _ w hw (hq k (by omega)), ih]
      rfl
    · refine (cellB _ _ _ _).trans ?_
      rw [gatesB _ _ _ _ w hw (hq k (by omega)), ih]
      rfl

/-! ### The whole -/

/-- The kernel's inputs are those of the reference: the sequence in chunks, the weights transposed, the first layer's recurrent
    weights scaled by 32, the biases as rows. -/
structure Same (I : Ins Ideal) (X : FVec Ideal Cert.ReferenceIdeal.S512x32x1024 .f32) (wi0 wh0 : FVec Ideal Cert.ReferenceIdeal.S4096x1024 .f32)
    (b0 : FVec Ideal Cert.ReferenceIdeal.S4096 .f32) (wi1 wh1 : FVec Ideal Cert.ReferenceIdeal.S4096x1024 .f32)
    (b1 : FVec Ideal Cert.ReferenceIdeal.S4096 .f32) : Prop where
  at_x : ∀ (n : ℕ) (hn : n < 32) (j : Fin 16) (b : Fin 32) (e : Fin 1024), I.x n (ix3 j b e) = X (ix3 (⟨16 * n + j.val, by omega⟩ : Fin 512) b e)
  at_wi0 : ∀ (i : Fin 1024) (j : Fin 4096), (I.wi0 (ix2 i j) : EReal) = (wi0 (ix2 j i) : EReal)
  at_wh0 : ∀ (i : Fin 1024) (j : Fin 4096), (I.wh0 (ix2 i j) : EReal) = (wh0 (ix2 j i) : EReal) * Ideal.ofBits .f32 0x42000000#32
  at_wi1 : ∀ (i : Fin 1024) (j : Fin 4096), (I.wi1 (ix2 i j) : EReal) = (wi1 (ix2 j i) : EReal)
  at_wh1 : ∀ (i : Fin 1024) (j : Fin 4096), (I.wh1 (ix2 i j) : EReal) = (wh1 (ix2 j i) : EReal)
  at_b0 : ∀ j : Fin 4096, I.b0 (ix2 (0 : Fin 1) j) = b0 (ix1 j)
  at_b1 : ∀ j : Fin 4096, I.b1 (ix2 (0 : Fin 1) j) = b1 (ix1 j)

variable {I : Ins Ideal} {X : FVec Ideal Cert.ReferenceIdeal.S512x32x1024 .f32} {wi0 wh0 : FVec Ideal Cert.ReferenceIdeal.S4096x1024 .f32}
  {b0 : FVec Ideal Cert.ReferenceIdeal.S4096 .f32} {wi1 wh1 : FVec Ideal Cert.ReferenceIdeal.S4096x1024 .f32}
  {b1 : FVec Ideal Cert.ReferenceIdeal.S4096 .f32}

/-- The transposed weights at an entry. -/
theorem wT_at (wh : FVec Ideal Cert.ReferenceIdeal.S4096x1024 .f32) (i : Fin 1024) (j : Fin 4096) : wT (F := Ideal) wh (ix2 i j) = wh (ix2 j i) := by
  pointwise [wT]

/-- The first layer's inputs of chunk `n`, row by row. -/
theorem pre1_at (H : Same I X wi0 wh0 b0 wi1 wh1 b1) (n : ℕ) (hn : n < 32) (k : ℕ) (hk : k < 16) :
    rowsP (F := Ideal) (pre1 I n) k = rowAt (F := Ideal) (preAll X wi0 b0) (ctr (16 * n + k)) := by
  funext y
  idx_vars y
  refine Eq.trans ?_ (row_at _ (16 * n + k) (by omega) y0 y1).symm
  have hq : (32 * k + y0.val) % 512 = 32 * k + y0.val := by omega
  show k0_pay6 (F := Ideal) (I.x n) I.wi0 I.b0 (ix2 (⟨(32 * k + y0.val) % 512, _⟩ : Fin 512) y1) = _
  pointwise [k0_pay6, preAll]
  rw [H.at_b0]
  refine congrArg (· + b0 (ix1 y1)) (Finset.sum_congr rfl fun x _ => ?_)
  rw [H.at_wi0 x y1, H.at_x n hn]
  refine congrArg (fun i => X i * wi0 (ix2 y1 x)) ((ix3_inj ..).2 ⟨Fin.ext ?_, Fin.ext ?_, rfl⟩)
  · show 16 * n + (32 * k + y0.val) % 512 / 32 = 16 * n + k; omega
  · rfl

/-- The first layer's recurrent weights are the transposed ones scaled. -/
theorem wh0_at (H : Same I X wi0 wh0 b0 wi1 wh1 b1) (i : Fin 1024) (j : Fin 4096) :
    (I.wh0 (ix2 i j) : EReal) = ((wT (F := Ideal) wh0 : FVec Ideal S1024x4096 .f32) (ix2 i j) : EReal) * Ideal.ofBits .f32 0x42000000#32 :=
  (H.at_wh0 i j).trans (congrArg (fun z : EReal => z * Ideal.ofBits .f32 0x42000000#32) (wT_at wh0 i j).symm)

/-- The second layer's recurrent weights are the transposed ones. -/
theorem wh1_at (H : Same I X wi0 wh0 b0 wi1 wh1 b1) (i : Fin 1024) (j : Fin 4096) :
    (I.wh1 (ix2 i j) : EReal) = (wT (F := Ideal) wh1 (ix2 i j) : EReal) := (H.at_wh1 i j).trans (wT_at wh1 i j).symm

/-- The first layer's states inside chunk `n`, from the reference's at its start. -/
theorem seqA_at (H : Same I X wi0 wh0 b0 wi1 wh1 b1) (n : ℕ) (hn : n < 32) (k : ℕ) (hk : k ≤ 16) :
    seqA I.wh0 (rowsP (pre1 I n)) (stateAt (F := Ideal) (preAll X wi0 b0) (wT wh0) (16 * n)) k
      = stateAt (F := Ideal) (preAll X wi0 b0) (wT wh0) (16 * n + k) :=
  seqA_eq (preAll (F := Ideal) X wi0 b0) (wT (F := Ideal) wh0) I.wh0 (wh0_at H) (rowsP (pre1 I n)) (16 * n) (fun k hk => pre1_at H n hn k hk) k hk

/-- The first layer's states at a chunk's start. -/
theorem stA_at (H : Same I X wi0 wh0 b0 wi1 wh1 b1) (n : ℕ) (hn : n ≤ 32) :
    stA I n = stateAt (F := Ideal) (preAll X wi0 b0) (wT wh0) (16 * n) := by
  induction n with
  | zero => exact zeros
  | succ n ih =>
    show seqA I.wh0 (rowsP (pre1 I n)) (stA I n) 16 = _
    rw [ih (by omega), show 16 * (n + 1) = 16 * n + 16 from rfl]
    exact seqA_at H n (by omega) 16 le_rfl

/-- The hidden state stored by a step of the first layer. -/
theorem rowA_at (w0 : FVec Ideal S1024x4096 .fp8e4m3) (p : ℕ → FVec Ideal S32x4096 .f32) (s : FVec Ideal S32x1024 .f32 × FVec Ideal S32x1024 .f32)
    (k : ℕ) (b : Fin 32) (e : Fin 1024) : (rowA (F := Ideal) w0 p s k (ix2 b e) : EReal) = ((seqA (F := Ideal) w0 p s (k + 1)).1 (ix2 b e) : EReal) :=
  storedA _ _ _ _ b e

/-- The hidden state stored by a step of the second layer. -/
theorem rowB_at (w1 : FVec Ideal S1024x4096 .bf16) (q : ℕ → FVec Ideal S1x32x4096 .bf16) (s : FVec Ideal S32x1024 .f32 × FVec Ideal S32x1024 .f32)
    (k : ℕ) (b : Fin 32) (e : Fin 1024) : rowB (F := Ideal) w1 q s k (ix3 (0 : Fin 1) b e) = (seqB (F := Ideal) w1 q s (k + 1)).1 (ix2 b e) :=
  storedB _ _ _ _ b e

/-- The hidden states handed to the second layer are the first layer's output. -/
theorem hid_at (H : Same I X wi0 wh0 b0 wi1 wh1 b1) (n : ℕ) (hn : n < 32) (q : Fin 512) (e : Fin 1024) :
    (hid I n (ix2 q e) : EReal)
      = (layer (F := Ideal) X wi0 wh0 b0 (ix3 (⟨16 * n + q.val / 32, by omega⟩ : Fin 512) (⟨q.val % 32, Nat.mod_lt _ (by decide)⟩ : Fin 32) e) : EReal) := by
  refine Eq.trans ?_ (layer_at X wi0 wh0 b0 _ _ _).symm
  refine (rowA_at I.wh0 (rowsP (pre1 I n)) (stA I n) (q.val / 32) (⟨q.val % 32, Nat.mod_lt _ (by decide)⟩ : Fin 32) e).trans ?_
  rw [stA_at H n (by omega), seqA_at H n hn (q.val / 32 + 1) (by omega)]
  rfl

/-- The second layer's inputs of chunk `n`, row by row. -/
theorem pre2_at (H : Same I X wi0 wh0 b0 wi1 wh1 b1) (n : ℕ) (hn : n < 32) (k : ℕ) (hk : k < 16) (b : Fin 32) (e : Fin 4096) :
    (rowsQ (F := Ideal) (pre2 I n) k (ix3 (0 : Fin 1) b e) : EReal)
      = (rowAt (F := Ideal) (preAll (layer X wi0 wh0 b0) wi1 b1) (ctr (16 * n + k)) (ix2 b e) : EReal) := by
  refine Eq.trans ?_ (row_at _ (16 * n + k) (by omega) b e).symm
  show (pre2Of (F := Ideal) (hid I n) I.wi1 I.b1 (ix2 (⟨(32 * k + b.val) % 512, _⟩ : Fin 512) e) : EReal) = _
  pointwise [pre2Of, k0_pay225, preAll]
  rw [H.at_b1]
  refine congrArg (· + b1 (ix1 e)) (Finset.sum_congr rfl fun x _ => ?_)
  rw [H.at_wi1 x e, hid_at H n hn]
  refine congrArg (fun i => layer (F := Ideal) X wi0 wh0 b0 i * wi1 (ix2 e x)) ((ix3_inj ..).2 ⟨Fin.ext ?_, Fin.ext ?_, rfl⟩)
  · show 16 * n + (32 * k + b.val) % 512 / 32 = 16 * n + k; omega
  · show (32 * k + b.val) % 512 % 32 = b.val; omega

/-- The second layer's states inside chunk `n`, from the reference's at its start. -/
theorem seqB_at (H : Same I X wi0 wh0 b0 wi1 wh1 b1) (n : ℕ) (hn : n < 32) (k : ℕ) (hk : k ≤ 16) :
    seqB I.wh1 (rowsQ (pre2 I n)) (stateAt (F := Ideal) (preAll (layer X wi0 wh0 b0) wi1 b1) (wT wh1) (16 * n)) k
      = stateAt (F := Ideal) (preAll (layer X wi0 wh0 b0) wi1 b1) (wT wh1) (16 * n + k) :=
  seqB_eq (preAll (F := Ideal) (layer X wi0 wh0 b0) wi1 b1) (wT (F := Ideal) wh1) I.wh1 (wh1_at H) (rowsQ (pre2 I n)) (16 * n)
    (fun k hk => pre2_at H n hn k hk) k hk

/-- The second layer's states at a chunk's start. -/
theorem stB_at (H : Same I X wi0 wh0 b0 wi1 wh1 b1) (n : ℕ) (hn : n ≤ 32) :
    stB I n = stateAt (F := Ideal) (preAll (layer X wi0 wh0 b0) wi1 b1) (wT wh1) (16 * n) := by
  induction n with
  | zero => exact zeros
  | succ n ih =>
    show seqB I.wh1 (rowsQ (pre2 I n)) (stB I n) 16 = _
    rw [ih (by omega), show 16 * (n + 1) = 16 * n + 16 from rfl]
    exact seqB_at H n (by omega) 16 le_rfl

/-- The output block of chunk `n` is the reference's rows `16 n` to `16 n + 15`. -/
theorem outB_at (H : Same I X wi0 wh0 b0 wi1 wh1 b1) (n : ℕ) (hn : n < 32) (j : Fin 16) (b : Fin 32) (e : Fin 1024) :
    outB I n (ix3 j b e) = layer (F := Ideal) (layer X wi0 wh0 b0) wi1 wh1 b1 (ix3 (⟨16 * n + j.val, by omega⟩ : Fin 512) b e) := by
  refine Eq.trans ?_ (layer_at (layer (F := Ideal) X wi0 wh0 b0) wi1 wh1 b1 _ _ _).symm
  refine (rowB_at I.wh1 (rowsQ (pre2 I n)) (stB I n) j.val b e).trans ?_
  rw [stB_at H n (by omega), seqB_at H n hn (j.val + 1) (by omega)]
  rfl

end Cert.Match

end
-- ==== Proof.Args.lean ====
/- What the launch is handed, in terms of the program's arguments. -/
module

public import proofs.«01_k».proof.Proof.Math
public import proofs.«01_k».proof.Proof.Ends

@[expose] public section

set_option maxRecDepth 16384

noncomputable section

namespace Cert.Match

open Idealize.ShloMosaic Idealize.ShloMosaic.TcCoe Idealize.SL.Sem
open Cert.KernelIdeal Cert.KernelIdeal.Gen Cert.KernelIdeal.Sub

variable (m : (ℓ : Loc nD τ sig) → Buf (Elt Ideal) ℓ)

/-- The windows' blocks: the input's moves on a chunk at a point up to the last, the others stay. -/
theorem idx : ∀ t : Fin cfg0.N, win0_0.index t = ![min t.val 31, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val - 1, 0, 0] :=
  (by decide +kernel : ∀ t : Fin grid0.N, _)

/-- The host's results at an entry. -/
theorem V_wi0 (c : Dev nD) (i : Fin 1024) (j : Fin 4096) :
    ((V m c main_v1 : FVec Ideal S1024x4096 .bf16) (ix2 i j) : EReal)
      = ((m ((c.tc : Thread nD τ).loc main_arg1) : FVec Ideal S4096x1024 .f32) (ix2 j i) : EReal) := by
  dsimp only [V]
  after_results_simp
  pointwise []

/-- The first layer's recurrent weights: transposed and scaled. -/
theorem V_wh0 (c : Dev nD) (i : Fin 1024) (j : Fin 4096) :
    ((V m c main_v5 : FVec Ideal S1024x4096 .fp8e4m3) (ix2 i j) : EReal)
      = @HMul.hMul EReal EReal EReal _ ((m ((c.tc : Thread nD τ).loc main_arg2) : FVec Ideal S4096x1024 .f32) (ix2 j i)) (Ideal.ofBits .f32 0x42000000#32) := by
  dsimp only [V]
  after_results_simp
  pointwise []

/-- The second layer's input weights: transposed. -/
theorem V_wi1 (c : Dev nD) (i : Fin 1024) (j : Fin 4096) :
    ((V m c main_v7 : FVec Ideal S1024x4096 .bf16) (ix2 i j) : EReal)
      = ((m ((c.tc : Thread nD τ).loc main_arg4) : FVec Ideal S4096x1024 .f32) (ix2 j i) : EReal) := by
  dsimp only [V]
  after_results_simp
  pointwise []

/-- The second layer's recurrent weights: transposed. -/
theorem V_wh1 (c : Dev nD) (i : Fin 1024) (j : Fin 4096) :
    ((V m c main_v9 : FVec Ideal S1024x4096 .bf16) (ix2 i j) : EReal)
      = ((m ((c.tc : Thread nD τ).loc main_arg5) : FVec Ideal S4096x1024 .f32) (ix2 j i) : EReal) := by
  dsimp only [V]
  after_results_simp
  pointwise []

/-- The first bias, as a row. -/
theorem V_b0 (c : Dev nD) (j : Fin 4096) :
    (V m c main_v10 : FVec Ideal S1x4096 .f32) (ix2 (0 : Fin 1) j) = (m ((c.tc : Thread nD τ).loc main_arg3) : FVec Ideal S4096 .f32) (ix1 j) := by
  dsimp only [V]
  after_results_simp
  pointwise []

/-- The second bias, as a row. -/
theorem V_b1 (c : Dev nD) (j : Fin 4096) :
    (V m c main_v11 : FVec Ideal S1x4096 .f32) (ix2 (0 : Fin 1) j) = (m ((c.tc : Thread nD τ).loc main_arg6) : FVec Ideal S4096 .f32) (ix1 j) := by
  dsimp only [V]
  after_results_simp
  pointwise []

/-- The blocks at an entry. -/
theorem blk_x (c : Dev nD) (n : ℕ) (hn : n < 32) (j : Fin 16) (b : Fin 32) (e : Fin 1024) :
    ((insOf m c).x n : FVec Ideal S16x32x1024 .f32) (ix3 j b e)
      = (m ((c.tc : Thread nD τ).loc main_arg0) : FVec Ideal S512x32x1024 .f32) (ix3 (⟨16 * n + j.val, by omega⟩ : Fin 512) b e) := by
  have hv : (pt n).val = n := Nat.mod_eq_of_lt (by omega)
  show iblk m c 0 (pt n) (ix3 j b e) = _
  blk_ext [iblk, V, idx (pt n), hv]

/-- The first layer's input weights are one block. -/
theorem blk_wi0 (c : Dev nD) : (insOf m c).wi0 = (V m c main_v1 : FVec Ideal S1024x4096 .bf16) := by
  show iblk m c 1 (pt 0) = _
  blk_ext! [iblk, idx (pt 0)]

/-- The first layer's recurrent weights are one block. -/
theorem blk_wh0 (c : Dev nD) : (insOf m c).wh0 = (V m c main_v5 : FVec Ideal S1024x4096 .fp8e4m3) := by
  show iblk m c 2 (pt 0) = _
  blk_ext! [iblk, idx (pt 0)]

/-- The second layer's input weights are one block. -/
theorem blk_wi1 (c : Dev nD) : (insOf m c).wi1 = (V m c main_v7 : FVec Ideal S1024x4096 .bf16) := by
  show iblk m c 3 (pt 0) = _
  blk_ext! [iblk, idx (pt 0)]

/-- The second layer's recurrent weights are one block. -/
theorem blk_wh1 (c : Dev nD) : (insOf m c).wh1 = (V m c main_v9 : FVec Ideal S1024x4096 .bf16) := by
  show iblk m c 4 (pt 0) = _
  blk_ext! [iblk, idx (pt 0)]

/-- The first bias is one block. -/
theorem blk_b0 (c : Dev nD) : (insOf m c).b0 = (V m c main_v10 : FVec Ideal S1x4096 .f32) := by
  show iblk m c 5 (pt 0) = _
  blk_ext! [iblk, idx (pt 0)]

/-- The second bias is one block. -/
theorem blk_b1 (c : Dev nD) : (insOf m c).b1 = (V m c main_v11 : FVec Ideal S1x4096 .f32) := by
  show iblk m c 6 (pt 0) = _
  blk_ext! [iblk, idx (pt 0)]

/-- The launch is handed the reference's inputs. -/
theorem same (c : Dev nD) : Same (insOf m c) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) where
  at_x n hn j b e := blk_x m c n hn j b e
  at_wi0 i j := (congrFun (blk_wi0 m c) (ix2 i j)).trans (V_wi0 m c i j)
  at_wh0 i j := (congrFun (blk_wh0 m c) (ix2 i j)).trans (V_wh0 m c i j)
  at_wi1 i j := (congrFun (blk_wi1 m c) (ix2 i j)).trans (V_wi1 m c i j)
  at_wh1 i j := (congrFun (blk_wh1 m c) (ix2 i j)).trans (V_wh1 m c i j)
  at_b0 j := (congrFun (blk_b0 m c) (ix2 (0 : Fin 1) j)).trans (V_b0 m c j)
  at_b1 j := (congrFun (blk_b1 m c) (ix2 (0 : Fin 1) j)).trans (V_b1 m c j)

end Cert.Match

end
-- ==== Proof.Out.lean ====
/- The output array at the end of the kernel's run is the reference's second layer over its first. -/
module

public import proofs.«01_k».proof.Proof.Args

@[expose] public section

set_option maxRecDepth 16384

noncomputable section

namespace Cert.Match

open Idealize.ShloMosaic Idealize.ShloMosaic.TcCoe Idealize.SL.Sem
open Idealize.ShloMosaic.Pipeline (Dat RDat)
open Cert.KernelIdeal Cert.KernelIdeal.Gen Cert.KernelIdeal.Sub

variable (m : (ℓ : Loc nD τ sig) → Buf (Elt Ideal) ℓ)

/-- The reference's output over the kernel's arguments. -/
def want (c : Dev nD) : FVec Ideal S512x32x1024 .f32 :=
  Cert.ReferenceIdeal.Sub.layer (F := Ideal)
    (Cert.ReferenceIdeal.Sub.layer (F := Ideal) (m ((c.tc : Thread nD τ).loc main_arg0)) (m ((c.tc : Thread nD τ).loc main_arg1))
      (m ((c.tc : Thread nD τ).loc main_arg2)) (m ((c.tc : Thread nD τ).loc main_arg3)))
    (m ((c.tc : Thread nD τ).loc main_arg4)) (m ((c.tc : Thread nD τ).loc main_arg5)) (m ((c.tc : Thread nD τ).loc main_arg6))

/-- The output is written back at every point but the first. -/
theorem flushed : ∀ t : Fin cfg0.N, (cfg0.win 7).flush t = true → 1 ≤ t.val := by
  have h : ∀ t : Fin grid0.N, win0_7.flush t = true → 1 ≤ t.val := by decide +kernel
  exact h

/-- The output block of chunk `t - 1`, at the array's indices where point `t` puts it. -/
theorem point (c : Dev nD) (t : Fin cfg0.N) (h1 : 1 ≤ t.val) (y : S16x32x1024.Idx) :
    outB (insOf m c) (t.val - 1) y = want m c ((win0_7.blk t).view.emb y) := by
  have hN : t.val < 33 := lt_of_lt_of_eq t.isLt N_0
  idx_vars y
  refine (outB_at (same m c) (t.val - 1) (by omega) y0 y1 y2).trans ?_
  show want m c (ix3 (⟨16 * (t.val - 1) + y0.val, _⟩ : Fin 512) y1 y2) = _
  blk_ext [idx t]

/-- The output array at the end. -/
theorem out_of {r : PUnit × MemSt nD τ sig (Elt Ideal)} (h : RDat.FramePost (cfgs 0) (fun c => rdat m c) (V m) r) (c : Dev nD) :
    r.2.mem ((c.tc : Thread nD τ).loc main_v12) = want m c := by
  obtain ⟨after, hL, hA⟩ := h.exists_exact c
  have key : ((rdat m c).withAfter after).arrAt 7 cfg0.N = want m c := by
    refine ((rdat m c).withAfter after).arrAt_eq_of_covers 7 (want m c) (by decide +kernel) fun t hf y => ?_
    have h1 : 1 ≤ t.val := flushed t hf
    have hN : t.val < 33 := lt_of_lt_of_eq t.isLt N_0
    have hX : after 7 t = outB (insOf m c) (t.val - 1) := Dat.toRRel_leaves (dats m 0 c) rfl (hL 7 t hf) h1
    blk_simp
    rw [RDat.withAfter_after, hX]
    exact point m c t h1 y
  exact (hA 7).trans key

end Cert.Match

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ends
public import proofs.«01_k».proof.Proof.RefEnds
public import proofs.«01_k».proof.Proof.Out
public import Idealize.ShloMosaic.Adequacy
public import Idealize.ShloMosaic.Init

@[expose] public section

noncomputable section

namespace Cert.Proof

open Idealize.ShloMosaic Idealize.SL.Sem Cert.Kernel

/-- Over the extended reals the kernel's output array ends as the reference's: the second layer's hidden states, step by step. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.Match.want m c, ?_, ?_⟩
  · exact (θ_run _ _ _).mono (fun r h c => ⟨Cert.Match.out_of m h.1 c, Cert.KernelIdeal.Sub.args_of m h.1 c⟩) (Cert.KernelIdeal.Sub.run_main (F := Ideal) m g)
  · refine (θ_run _ _ _).mono (fun r h c => ⟨(h.1 c).1.trans ?_, (h.1 c).2⟩) (Cert.ReferenceIdeal.Sub.run_values (F := Ideal) m' g')
    obtain ⟨h0, h1, h2, h3, h4, h5, h6⟩ := hm c
    rw [h0, h1, h2, h3, h4, h5, h6]
    rfl

/-- Every claim. -/
theorem claim : Cert.Claim := ⟨Cert.Kernel.Gen.facts, Cert.KernelIdeal.Gen.facts, Cert.ReferenceIdeal.Gen.facts,
  fun m ρ _ => Cert.Kernel.Sub.frame_run (F := Bits) m ρ,
  fun m ρ _ => Cert.KernelIdeal.Sub.frame_run (F := Ideal) m ρ,
  fun m ρ _ => (θ_run _ _ _).mono (fun _ h => ⟨fun c => (h.1 c).2, h.2⟩) (Cert.ReferenceIdeal.Sub.run_values (F := Ideal) m ρ),
  trivial,
  algebraic⟩

end Cert.Proof

end
